-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x1024x16x64 : S_.BroadcastsInDim S16x1024x16x64 (![] : Fin 0 → Fin S16x1024x16x64.rank)
  reducesTo_S16x1024x16x64_S_d0_1_2_3 : S16x1024x16x64.ReducesTo [0, 1, 2, 3] S_

variable [Facts]

def fn {F : FTy → Type} [FloatOps F] (main_arg0 : FVec F S16x1x16x64 .f32) (main_arg1 : FVec F S16x1024x16x64 .f32) (main_arg2 : FVec F S16x1024x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x1024x16x64 .f32 := Host.absf main_arg1
  let main_cst_0 : FVec F S_ .f32 := constant S_ .f32 0x7F800000#32
  let main_v5 : FVec F S16x1024x16x64 .f32 := broadcastInDim S16x1024x16x64 ![] bcast_S_S16x1024x16x64 main_cst_0
  let main_v6 : IVec S16x1024x16x64 1 := cmpf .olt main_v4 main_v5
  let main_c_1 : IVec S_ 1 := constantI S_ 1 1#1
  let main_v7 : IVec S_ 1 := (fun x v => Host.reduce IntOp.andi x v reducesTo_S16x1024x16x64_S_d0_1_2_3 h_S_) main_v6 main_c_1
  let main_v8 : IVec S_ 1 := andi main_v3 main_v7
  main_v8
-- ==== Pre_finite_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_

variable [Facts]

def fn {F : FTy → Type} [FloatOps F] (main_arg0 : FVec F S16x1x16x64 .f32) (main_arg1 : FVec F S16x2048x16x64 .f32) (main_arg2 : FVec F S16x2048x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x2048x16x64 .f32 := Host.absf main_arg1
  let main_cst_0 : FVec F S_ .f32 := constant S_ .f32 0x7F800000#32
  let main_v5 : FVec F S16x2048x16x64 .f32 := broadcastInDim S16x2048x16x64 ![] bcast_S_S16x2048x16x64 main_cst_0
  let main_v6 : IVec S16x2048x16x64 1 := cmpf .olt main_v4 main_v5
  let main_c_1 : IVec S_ 1 := constantI S_ 1 1#1
  let main_v7 : IVec S_ 1 := (fun x v => Host.reduce IntOp.andi x v reducesTo_S16x2048x16x64_S_d0_1_2_3 h_S_) main_v6 main_c_1
  let main_v8 : IVec S_ 1 := andi main_v3 main_v7
  main_v8
-- ==== Kernel.lean ====
abbrev S16x1x16x64 : Shape := ⟨4, ![16, 1, 16, 64]⟩
abbrev S16x1024x16x64 : Shape := ⟨4, ![16, 1024, 16, 64]⟩
abbrev S_ : Shape := ⟨0, ![]⟩
abbrev S16x16x64x1024 : Shape := ⟨4, ![16, 16, 64, 1024]⟩
abbrev S16x16x64 : Shape := ⟨3, ![16, 16, 64]⟩
abbrev S8x16x64 : Shape := ⟨3, ![8, 16, 64]⟩
abbrev S1 : Shape := ⟨1, ![1]⟩
abbrev S1x16x64 : Shape := ⟨3, ![1, 16, 64]⟩
abbrev S1x16x64x1024 : Shape := ⟨4, ![1, 16, 64, 1024]⟩
abbrev S2x8x16 : Shape := ⟨3, ![2, 8, 16]⟩
abbrev S3 : Shape := ⟨1, ![3]⟩
abbrev S16x64 : Shape := ⟨2, ![16, 64]⟩
abbrev S16x64x1024 : Shape := ⟨3, ![16, 64, 1024]⟩
abbrev S16x64x1 : Shape := ⟨3, ![16, 64, 1]⟩
abbrev S16x1024 : Shape := ⟨2, ![16, 1024]⟩
abbrev S16 : Shape := ⟨1, ![16]⟩
abbrev S16x1 : Shape := ⟨2, ![16, 1]⟩
abbrev S16x1x1024 : Shape := ⟨3, ![16, 1, 1024]⟩
abbrev S1x16 : Shape := ⟨2, ![1, 16]⟩
abbrev S1x1x16 : Shape := ⟨3, ![1, 1, 16]⟩
abbrev S1x8x16 : Shape := ⟨3, ![1, 8, 16]⟩
abbrev S8x16 : Shape := ⟨2, ![8, 16]⟩
abbrev S8x16x1 : Shape := ⟨3, ![8, 16, 1]⟩

abbrev nBuf : Space → Nat
  | .hbm => 27
  | .vmem => 11
  | .smem => 1
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S16x16x64x1024, .f32⟩
  | .hbm, ⟨12, _⟩ => ⟨S16x16x64x1024, .f32⟩
  | .hbm, ⟨13, _⟩ => ⟨S16x16x64, .f32⟩
  | .hbm, ⟨14, _⟩ => ⟨S_, .f32⟩
  | .hbm, ⟨15, _⟩ => ⟨S16x16x64, .f32⟩
  | .hbm, ⟨16, _⟩ => ⟨S16x16x64, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S8x16x64, .f32⟩
  | .hbm, ⟨25, _⟩ => ⟨S16x16x64, .f32⟩
  | .hbm, ⟨26, _⟩ => ⟨S16x1x16x64, .f32⟩
  | .local _ .vmem, ⟨0, _⟩ => ⟨S1x16x64, .f32⟩
  | .local _ .vmem, ⟨1, _⟩ => ⟨S1x16x64, .f32⟩
  | .local _ .vmem, ⟨2, _⟩ => ⟨S1x16x64x1024, .f32⟩
  | .local _ .vmem, ⟨3, _⟩ => ⟨S1x16x64x1024, .f32⟩
  | .local _ .vmem, ⟨4, _⟩ => ⟨S1x16x64x1024, .f32⟩
  | .local _ .vmem, ⟨5, _⟩ => ⟨S1x16x64x1024, .f32⟩
  | .local _ .vmem, ⟨6, _⟩ => ⟨S16x16x64, .f32⟩
  | .local _ .vmem, ⟨7, _⟩ => ⟨S8x16x64, .f32⟩
  | .local _ .vmem, ⟨8, _⟩ => ⟨S2x8x16, .f32⟩
  | .local _ .vmem, ⟨9, _⟩ => ⟨S8x16x64, .f32⟩
  | .local _ .vmem, ⟨10, _⟩ => ⟨S2x8x16, .f32⟩
  | .local _ .smem, ⟨0, _⟩ => ⟨S1, .i32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_c_5 : Ref sig .tc := ⟨.hbm, 23, rfl⟩
abbrev main_v14 : Ref sig .tc := ⟨.hbm, 24, rfl⟩
abbrev main_v16 : Ref sig .tc := ⟨.hbm, 25, rfl⟩
abbrev main_v17 : Ref sig .tc := ⟨.hbm, 26, rfl⟩
abbrev main_v15 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 4
abbrev τ : Topo := Topo.v7x

variable {F : FTy → Type} [FloatOps F]

abbrev grid0 : Pipeline.Grid := ⟨1, ![8], ![false]⟩

abbrev pre0 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v22 : Index := Scalar.indexCast arg0
  let c0_13 : Index := 0#32
  let c0_14 : Index := 0#32
  ![v22.toNat, 0, 0]
def k0_off2 (i : grid0.Coords) : Fin 3 → Nat :=
  let c0_15 : Index := 0#32
  let arg0 : BitVec 32 := BitVec.ofNat 32 (i 0).val
  let v27 : Index := Scalar.indexCast arg0
  let c0_16 : Index := 0#32
  ![0, v27.toNat, 0]
def k0_off3 (i : grid0.Coords) : Fin 3 → Nat :=
  let c1 : Index := 1#32
  let arg0 : BitVec 32 := BitVec.ofNat 32 (i 0).val
  let v32 : Index := Scalar.indexCast arg0
  let c0_17 : Index := 0#32
  ![1, v32.toNat, 0]
def k0_cond1 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32 : BitVec 32 := 0#32
  let v38 : BitVec 1 := Scalar.cmpi .ne v37 c0_i32
  v38

def k0_mult1 (v45 : BitVec 32) : BitVec 32 :=
  v45

def k0_dev1 (d39 : Dev nD) : Nat :=
  let c0_i32_25 : BitVec 32 := 0#32
  let c1_i32_21 : BitVec 32 := 1#32
  let v39 : BitVec 32 := Dev.word d39
  let c2_i32_18 : BitVec 32 := 2#32
  let v40 : BitVec 32 := Scalar.divsi v39 c2_i32_18
  let c2_i32 : BitVec 32 := 2#32
  let v41 : BitVec 32 := Scalar.remsi v40 c2_i32
  let v47 : BitVec 32 := Scalar.subi c1_i32_21 v41
  let c2_i32_24 : BitVec 32 := 2#32
  let v50 : BitVec 32 := Scalar.muli v47 c2_i32_24
  let v51 : BitVec 32 := Scalar.addi c0_i32_25 v50
  let v42 : BitVec 32 := Dev.word d39
  let c1_i32 : BitVec 32 := 1#32
  let v43 : BitVec 32 := Scalar.divsi v42 c1_i32
  let c2_i32_19 : BitVec 32 := 2#32
  let v44 : BitVec 32 := Scalar.remsi v43 c2_i32_19
  let c1_i32_26 : BitVec 32 := 1#32
  let v52 : BitVec 32 := Scalar.muli v44 c1_i32_26
  let v53 : BitVec 32 := Scalar.addi v51 v52
  v53.toNat
def k0_dev2 (d39 : Dev nD) : Nat :=
  let c0_i32_29 : BitVec 32 := 0#32
  let v39 : BitVec 32 := Dev.word d39
  let c2_i32_18 : BitVec 32 := 2#32
  let v40 : BitVec 32 := Scalar.divsi v39 c2_i32_18
  let c2_i32 : BitVec 32 := 2#32
  let v41 : BitVec 32 := Scalar.remsi v40 c2_i32
  let c2_i32_28 : BitVec 32 := 2#32
  let v54 : BitVec 32 := Scalar.muli v41 c2_i32_28
  let v55 : BitVec 32 := Scalar.addi c0_i32_29 v54
  let c1_i32_22 : BitVec 32 := 1#32
  let v42 : BitVec 32 := Dev.word d39
  let c1_i32 : BitVec 32 := 1#32
  let v43 : BitVec 32 := Scalar.divsi v42 c1_i32
  let c2_i32_19 : BitVec 32 := 2#32
  let v44 : BitVec 32 := Scalar.remsi v43 c2_i32_19
  let v48 : BitVec 32 := Scalar.subi c1_i32_22 v44
  let c1_i32_30 : BitVec 32 := 1#32
  let v56 : BitVec 32 := Scalar.muli v48 c1_i32_30
  let v57 : BitVec 32 := Scalar.addi v55 v56
  v57.toNat
def k0_dev3 (d39 : Dev nD) : Nat :=
  let c0_i32_35 : BitVec 32 := 0#32
  let c1_i32_21 : BitVec 32 := 1#32
  let v39 : BitVec 32 := Dev.word d39
  let c2_i32_18 : BitVec 32 := 2#32
  let v40 : BitVec 32 := Scalar.divsi v39 c2_i32_18
  let c2_i32 : BitVec 32 := 2#32
  let v41 : BitVec 32 := Scalar.remsi v40 c2_i32
  let v47 : BitVec 32 := Scalar.subi c1_i32_21 v41
  let c2_i32_34 : BitVec 32 := 2#32
  let v58 : BitVec 32 := Scalar.muli v47 c2_i32_34
  let v59 : BitVec 32 := Scalar.addi c0_i32_35 v58
  let v42 : BitVec 32 := Dev.word d39
  let c1_i32 : BitVec 32 := 1#32
  let v43 : BitVec 32 := Scalar.divsi v42 c1_i32
  let c2_i32_19 : BitVec 32 := 2#32
  let v44 : BitVec 32 := Scalar.remsi v43 c2_i32_19
  let c1_i32_36 : BitVec 32 := 1#32
  let v60 : BitVec 32 := Scalar.muli v44 c1_i32_36
  let v61 : BitVec 32 := Scalar.addi v59 v60
  v61.toNat
def k0_dev4 (d39 : Dev nD) : Nat :=
  let c0_i32_40 : BitVec 32 := 0#32
  let c1_i32_21 : BitVec 32 := 1#32
  let v39 : BitVec 32 := Dev.word d39
  let c2_i32_18 : BitVec 32 := 2#32
  let v40 : BitVec 32 := Scalar.divsi v39 c2_i32_18
  let c2_i32 : BitVec 32 := 2#32
  let v41 : BitVec 32 := Scalar.remsi v40 c2_i32
  let v47 : BitVec 32 := Scalar.subi c1_i32_21 v41
  let c2_i32_39 : BitVec 32 := 2#32
  let v66 : BitVec 32 := Scalar.muli v47 c2_i32_39
  let v67 : BitVec 32 := Scalar.addi c0_i32_40 v66
  let v42 : BitVec 32 := Dev.word d39
  let c1_i32 : BitVec 32 := 1#32
  let v43 : BitVec 32 := Scalar.divsi v42 c1_i32
  let c2_i32_19 : BitVec 32 := 2#32
  let v44 : BitVec 32 := Scalar.remsi v43 c2_i32_19
  let c1_i32_41 : BitVec 32 := 1#32
  let v68 : BitVec 32 := Scalar.muli v44 c1_i32_41
  let v69 : BitVec 32 := Scalar.addi v67 v68
  v69.toNat
def k0_off4 (v45 : BitVec 32) : Fin 3 → Nat :=
  let v46 : BitVec 32 := v45
  let v118 : Index := Scalar.indexCast v46
  let c0_76 : Index := 0#32
  let c0_77 : Index := 0#32
  ![v118.toNat, 0, 0]
def k0_off5 (v45 : BitVec 32) : Fin 3 → Nat :=
  let v46 : BitVec 32 := v45
  let c0_i32_83 : BitVec 32 := 0#32
  let c0_i32_84 : BitVec 32 := 0#32
  ![v46.toNat, 0, 0]

def k0_chk1 (i : grid0.Coords) (v45 : BitVec 32) : Prop :=
  (∀ (k0_h1 : k0_cond1 i = 1#1), 8 ∣ (k0_mult1 v45).toNat) ∧
  (∀ (k0_h1 : k0_cond1 i = 1#1), ∀ a, (k0_off4 v45) a + S8x16x64.size a ≤ S16x16x64.size a) ∧
  (∀ (k0_h1 : k0_cond1 i = 1#1), ∀ a, (k0_off5 v45) a + S8x16x64.size a ≤ S16x16x64.size a)
theorem k0_mult1_dvd : ∀ (i : grid0.Coords) (v45 : BitVec 32) (k0_hw1 : k0_chk1 i v45), ∀ (k0_h1 : k0_cond1 i = 1#1), 8 ∣ (k0_mult1 v45).toNat := fun i v45 k0_hw1 k0_h1 => k0_hw1.1 k0_h1
theorem k0_off4_inb : ∀ (i : grid0.Coords) (v45 : BitVec 32) (k0_hw1 : k0_chk1 i v45), ∀ (k0_h1 : k0_cond1 i = 1#1), ∀ a, (k0_off4 v45) a + S8x16x64.size a ≤ S16x16x64.size a := fun i v45 k0_hw1 k0_h1 => k0_hw1.2.1 k0_h1
theorem k0_off5_inb : ∀ (i : grid0.Coords) (v45 : BitVec 32) (k0_hw1 : k0_chk1 i v45), ∀ (k0_h1 : k0_cond1 i = 1#1), ∀ a, (k0_off5 v45) a + S8x16x64.size a ≤ S16x16x64.size a := fun i v45 k0_hw1 k0_h1 => k0_hw1.2.2 k0_h1

def k0_dev5 (d39 : Dev nD) : Nat :=
  let c0_i32_81 : BitVec 32 := 0#32
  let v39 : BitVec 32 := Dev.word d39
  let c2_i32_18 : BitVec 32 := 2#32
  let v40 : BitVec 32 := Scalar.divsi v39 c2_i32_18
  let c2_i32 : BitVec 32 := 2#32
  let v41 : BitVec 32 := Scalar.remsi v40 c2_i32
  let c2_i32_80 : BitVec 32 := 2#32
  let v120 : BitVec 32 := Scalar.muli v41 c2_i32_80
  let v121 : BitVec 32 := Scalar.addi c0_i32_81 v120
  let c1_i32_22 : BitVec 32 := 1#32
  let v42 : BitVec 32 := Dev.word d39
  let c1_i32 : BitVec 32 := 1#32
  let v43 : BitVec 32 := Scalar.divsi v42 c1_i32
  let c2_i32_19 : BitVec 32 := 2#32
  let v44 : BitVec 32 := Scalar.remsi v43 c2_i32_19
  let v48 : BitVec 32 := Scalar.subi c1_i32_22 v44
  let c1_i32_82 : BitVec 32 := 1#32
  let v122 : BitVec 32 := Scalar.muli v48 c1_i32_82
  let v123 : BitVec 32 := Scalar.addi v121 v122
  v123.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi arg0 v0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi arg0 v0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x2048x16x64, .f32⟩
  | .hbm, ⟨2, _⟩ => ⟨S16x2048x16x64, .f32⟩
  | .hbm, ⟨3, _⟩ => ⟨S16x16x1x2048, .f32⟩
  | .hbm, ⟨4, _⟩ => ⟨S_, .f32⟩
  | .hbm, ⟨5, _⟩ => ⟨S16x16x1x2048, .f32⟩
  | .hbm, ⟨6, _⟩ => ⟨S16x16x1x2048, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x2048, .f32⟩
  | .hbm, ⟨11, _⟩ => ⟨S16x16x1x2048, .f32⟩
  | .hbm, ⟨12, _⟩ => ⟨S16x16x1x2048, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x2048, .f32⟩
  | .hbm, ⟨17, _⟩ => ⟨S16x16x1x2048, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Sched.lean ====
/- The peers, the semaphore cells and the schedule of the exchanges of the last grid step.

   Device `c = 2 x + y`.  Its `x` peer holds the other half of the context for the same half of the batch,
   its `y` peer has the other half of the batch.  At the last grid step a device
   * signals the barrier of both peers and waits for two units on its own: the unit of the `x` peer hands it
     that peer's two landing buffers, the unit of the `y` peer the rows of that peer's result which it fills;
   * copies its two partial results to the `x` peer (cells `recv 0`, `recv 1`) and waits for the peer's;
   * writes its half of the result and copies it to the same rows of the `y` peer (cell `recv 2`).
   A send cell gives the source back, a receive cell gives what has landed, with its contents. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Rounds
public import Idealize.ShloMosaic.Lib.VecWindow
public import Idealize.ShloMosaic.Lib.Tactic

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The peers -/

/-- The device with the other half of the context. -/
def px (c : Dev nD) : Dev nD := ⟨((c.val % 2) + 2) - 2 * (c.val / 2), by revert c; decide⟩
/-- The device with the other half of the batch. -/
def py (c : Dev nD) : Dev nD := ⟨(2 * (c.val / 2) + 1) - (c.val % 2), by revert c; decide⟩

theorem px_px (c : Dev nD) : px (px c) = c := by revert c; decide
theorem py_py (c : Dev nD) : py (py c) = c := by revert c; decide
theorem px_ne (c : Dev nD) : px c ≠ c := by revert c; decide
theorem py_ne (c : Dev nD) : py c ≠ c := by revert c; decide
theorem px_ne_py (c : Dev nD) : px c ≠ py c := by revert c; decide

def swapX : Dev nD ≃ Dev nD := ⟨px, px, px_px, px_px⟩
def swapY : Dev nD ≃ Dev nD := ⟨py, py, py_py, py_py⟩

/-! ## The memrefs -/

abbrev oM : Memref sig .tc .vmem S8x16x64 .f32 := Memref.whole cc0_scratch0
abbrev mM : Memref sig .tc .vmem S2x8x16 .f32 := Memref.whole cc0_scratch1
abbrev oR : Memref sig .tc .vmem S8x16x64 .f32 := Memref.whole cc0_scratch2
abbrev mR : Memref sig .tc .vmem S2x8x16 .f32 := Memref.whole cc0_scratch3
abbrev outM : Memref sig .tc .vmem S16x16x64 .f32 := Memref.whole cc0_stg3_0
abbrev tabM : Memref sig .tc .smem S1 .i32 := Memref.whole main_v15

/-- The word of the table on device `c`: where its half of the batch begins. -/
def bw (c : Dev nD) : BitVec 32 := BitVec.ofNat 32 (8 * (c.val % 2))

theorem off5_eq (c : Dev nD) : k0_off5 (bw c) = ![8 * (c.val % 2), 0, 0] := by revert c; decide
theorem off4_eq (c : Dev nD) : k0_off4 (bw c) = ![8 * (c.val % 2), 0, 0] := by revert c; decide
theorem off4_off5 (c : Dev nD) : k0_off4 (bw c) = k0_off5 (bw c) := by revert c; decide
theorem inb5 (c : Dev nD) : ∀ a : Fin 3, k0_off5 (bw c) a + S8x16x64.size a ≤ S16x16x64.size a := by revert c; decide
theorem inb4 (c : Dev nD) : ∀ a : Fin 3, k0_off4 (bw c) a + S8x16x64.size a ≤ S16x16x64.size a := by revert c; decide

/-- The rows of the result that hold device `c`'s half of the batch. -/
abbrev rH (c : Dev nD) : Rect S16x16x64 := Rect.unit (s := S16x16x64) (k0_off5 (bw c)) S8x16x64.size (inb5 c)
abbrev outH (c : Dev nD) : Memref sig .tc .vmem S8x16x64 .f32 := outM.slice (rH c) (fun _ => rfl)

/-! ## The cells -/

abbrev barS : Sem sig := (SemArray.scalar (sig.barrier 0 rfl) : Sems sig S_).sem
abbrev s0 : DmaSem sig := ((cc0_scratch4.slice (Rect.unit (s := S3) ![0] S1.size inb_S3_S1_0)).squeeze S_ squeezes_S1_S_).sem
abbrev s1 : DmaSem sig := ((cc0_scratch4.slice (Rect.unit (s := S3) ![1] S1.size inb_S3_S1_1)).squeeze S_ squeezes_S1_S_).sem
abbrev s2 : DmaSem sig := ((cc0_scratch4.slice (Rect.unit (s := S3) ![2] S1.size inb_S3_S1_2)).squeeze S_ squeezes_S1_S_).sem
abbrev r0 : DmaSem sig := ((cc0_scratch5.slice (Rect.unit (s := S3) ![0] S1.size inb_S3_S1_0)).squeeze S_ squeezes_S1_S_).sem
abbrev r1 : DmaSem sig := ((cc0_scratch5.slice (Rect.unit (s := S3) ![1] S1.size inb_S3_S1_1)).squeeze S_ squeezes_S1_S_).sem
abbrev r2 : DmaSem sig := ((cc0_scratch5.slice (Rect.unit (s := S3) ![2] S1.size inb_S3_S1_2)).squeeze S_ squeezes_S1_S_).sem

/-- The six scoped semaphores: three send, three receive. -/
abbrev osem : Fin 6 → SemLoc sig := fun
  | 0 => .dma s0 | 1 => .dma s1 | 2 => .dma s2 | 3 => .dma r0 | 4 => .dma r1 | 5 => .dma r2

/-- Seven kinds of cell: the barrier and the six. -/
abbrev ksem : Fin 7 → SemLoc sig := fun
  | 0 => .reg barS | 1 => .dma s0 | 2 => .dma s1 | 3 => .dma s2 | 4 => .dma r0 | 5 => .dma r1 | 6 => .dma r2

theorem ksem_inj : Function.Injective ksem := by decide

abbrev kc (c : Dev nD) (k : Fin 7) : GSem nD τ sig := ((c : Thread nD τ), ksem k)

abbrev N0 : ℕ := oR.view.dmaCredit
abbrev N1 : ℕ := mR.view.dmaCredit
theorem N0_pos : 0 < N0 := View.dmaCredit_pos _ (by decide)
theorem N1_pos : 0 < N1 := View.dmaCredit_pos _ (by decide)
theorem outH_credit (c : Dev nD) : (outH c).view.dmaCredit = N0 := rfl

/-- What one duty of a cell of kind `k` brings. -/
def amt : Fin 7 → ℕ
  | 0 => 1 | 1 => N0 | 2 => N1 | 3 => N0 | 4 => N0 | 5 => N1 | 6 => N0

theorem amt_pos : ∀ k, 0 < amt k
  | 0 => Nat.one_pos | 1 => N0_pos | 2 => N1_pos | 3 => N0_pos | 4 => N0_pos | 5 => N1_pos | 6 => N0_pos

/-! ## The contents -/

/-- What the devices have in their buffers when they exchange: the two partial results and the combined half. -/
structure Vals (F : FTy → Type) where
  o : Dev nD → S8x16x64.Idx → Elt F .f32
  ml : Dev nD → S2x8x16.Idx → Elt F .f32
  cb : Dev nD → S8x16x64.Idx → Elt F .f32

variable (v : Vals F)

abbrev own (c : Dev nD) {sp : Space} {s : Shape} {e : EltTy} (m : Memref sig .tc sp s e) (X : s.Idx → Elt F e) : sProp 𝕄 :=
  owns (Ix := Unit) (Name := ℕ) (U := UU) (Lvl := ℕ) (c : Thread nD τ) m fullShare X

/-! ## The payloads -/

def payBx (c : Dev nD) : sProp 𝕄 :=
  iprop((∃ X, own (F := F) (px c) oR X) ∗ (∃ X, own (F := F) (px c) mR X) ∗ reached ER (kc (px c) 4) 0 ∗ reached ER (kc (px c) 5) 0)
def payBy (c : Dev nD) : sProp 𝕄 :=
  iprop((∃ X, own (F := F) (py c) (outH c) X) ∗ reached ER (kc (py c) 6) 0)

/-- The payload of a duty of the cell of kind `k` on device `c`. -/
def pay (c : Dev nD) : Fin 7 → Bool → sProp 𝕄
  | 0, false => payBx c
  | 0, true => payBy c
  | 1, _ => own c oM (v.o c)
  | 2, _ => own c mM (v.ml c)
  | 3, _ => own c (outH c) (v.cb c)
  | 4, _ => own c oR (v.o (px c))
  | 5, _ => own c mR (v.ml (px c))
  | 6, _ => own c (outH (py c)) (v.cb (py c))

/-- The kind of a cell, if it is one of the seven. -/
def kind (sm : SemLoc sig) : Option (Fin 7) :=
  if sm = ksem 0 then some 0 else if sm = ksem 1 then some 1 else if sm = ksem 2 then some 2 else if sm = ksem 3 then some 3
  else if sm = ksem 4 then some 4 else if sm = ksem 5 then some 5 else if sm = ksem 6 then some 6 else none

theorem kind_ksem (k : Fin 7) : kind (ksem k) = some k := by
  fin_cases k <;> decide

def Rd : Rounds.Schedule (GSem nD τ sig) Bool 𝕄 where
  duties g r := if r = 0 ∧ g.1.2 = .tc then
      match kind g.2 with | some 0 => {false, true} | some _ => {false} | none => ∅
    else ∅
  unitless _ := False
  amount g _ _ := match kind g.2 with | some k => amt k | none => 1
  payload g _ d := match kind g.2 with | some k => pay v g.1.1 k d | none => iprop(emp)
  amount_pos g _ _ _ := by
    cases kind g.2 with
    | none => exact Nat.one_pos
    | some k => exact amt_pos k

instance own_storable (c : Dev nD) {sp : Space} {s : Shape} {e : EltTy} (m : Memref sig .tc sp s e) (X : s.Idx → Elt F e) :
    BI.Storable (upEmb : UEmb _ 𝕄) (own c m X) := by
  unfold own owns; infer_instance

instance pay_storable (c : Dev nD) (k : Fin 7) (d : Bool) : BI.Storable (upEmb : UEmb _ 𝕄) (pay v c k d) := by
  fin_cases k <;> cases d <;> simp only [pay, payBx, payBy] <;> infer_instance

instance Rd_storable (g : GSem nD τ sig) (r : ℕ) (d : Bool) : BI.Storable (upEmb : UEmb _ 𝕄) ((Rd v).payload g r d) := by
  dsimp only [Rd]
  split <;> infer_instance

section Sched
variable (c : Dev nD)

theorem duties_bar : (Rd v).duties (kc c 0) 0 = {false, true} := by
  dsimp only [Rd]; rw [if_pos ⟨rfl, rfl⟩, kind_ksem]; rfl
theorem duties_dma (k : Fin 7) (hk : k ≠ 0) : (Rd v).duties (kc c k) 0 = {false} := by
  dsimp only [Rd]; rw [if_pos ⟨rfl, rfl⟩, kind_ksem]; revert hk; fin_cases k <;> intro hk
  · exact absurd rfl hk
  all_goals rfl
theorem duties_later (g : GSem nD τ sig) : ∀ r, 1 ≤ r → (Rd v).duties g r = ∅ :=
  fun r hr => by dsimp only [Rd]; exact if_neg fun h => by omega

theorem amount_k (k : Fin 7) (r : ℕ) (d : Bool) : (Rd v).amount (kc c k) r d = amt k := by
  dsimp only [Rd]; rw [kind_ksem]
theorem payload_k (k : Fin 7) (r : ℕ) (d : Bool) : (Rd v).payload (kc c k) r d = pay v c k d := by
  dsimp only [Rd]; rw [kind_ksem]

theorem expect_bar : (Rd v).expect (kc c 0) 0 = 2 := by
  unfold Schedule.expect Schedule.amountOf
  rw [duties_bar, Finset.sum_pair (by decide), amount_k, amount_k]; rfl
theorem expect_dma (k : Fin 7) (hk : k ≠ 0) : (Rd v).expect (kc c k) 0 = amt k := by
  unfold Schedule.expect Schedule.amountOf
  rw [duties_dma v c k hk, Finset.sum_singleton, amount_k]

theorem rest_bar : bigSep ((Rd v).duties (kc c 0) 0 \ ∅) (fun u => (Rd v).payload (kc c 0) 0 u) = iprop(payBx (F := F) c ∗ payBy c) := by
  rw [Finset.sdiff_empty, duties_bar, bigSep_insert (by decide), bigSep_singleton, payload_k, payload_k]; rfl
theorem rest_dma (k : Fin 7) (hk : k ≠ 0) :
    bigSep ((Rd v).duties (kc c k) 0 \ ∅) (fun u => (Rd v).payload (kc c k) 0 u) = pay v c k false := by
  rw [Finset.sdiff_empty, duties_dma v c k hk, bigSep_singleton, payload_k]

end Sched

/-! ## What a device owes at launch; the levels -/

abbrev owe2 (c : Dev nD) : CellTallies nD τ sig Unit := tallyAt (kc (py c) 6) () N0
abbrev owe1 (c : Dev nD) : CellTallies nD τ sig Unit := owe2 c + tallyAt (kc (px c) 5) () N1
abbrev owe0 (c : Dev nD) : CellTallies nD τ sig Unit := owe1 c + tallyAt (kc (px c) 4) () N0
abbrev oweB (c : Dev nD) : CellTallies nD τ sig Unit := owe0 c + tallyAt (kc (py c) 0) () 1

/-- Device `c` owes its three remote copies and the two barrier units. -/
def O₀ (c : Dev nD) : CellTallies nD τ sig Unit := oweB c + tallyAt (kc (px c) 0) () 1

def L (g : GSem nD τ sig) : Finset Unit := if g.1.2 = .tc then {()} else ∅
def lvk (sm : SemLoc sig) : ℕ := match kind sm with | some 0 => 1 | some 4 => 2 | some 5 => 2 | some 6 => 3 | _ => 0
def lv (g : GSem nD τ sig) (_ : Unit) : ℕ := lvk g.2
theorem L_of_ne (g : GSem nD τ sig) (h : g.1.2 ≠ .tc) : L g = ∅ := if_neg h
theorem L_tc (c : Dev nD) (sm : SemLoc sig) : L ((c : Thread nD τ), sm) = {()} := if_pos rfl

/-- Nothing on a cell of level `n` or less. -/
def Above (n : ℕ) (O : CellTallies nD τ sig Unit) : Prop := ∀ g u, 0 < O g u → g.1.2 = .tc ∧ n < lv g u

theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

theorem above_at {n : ℕ} (c : Dev nD) (k : Fin 7) (N : ℕ) (h : n < lvk (ksem k)) : Above n (tallyAt (kc c k) () N) := by
  intro g u hg
  rw [tallyAt_apply] at hg
  by_cases h' : g = kc c k ∧ u = ()
  · rw [h'.1]; exact ⟨rfl, h⟩
  · rw [if_neg h'] at hg; exact absurd hg (Nat.lt_irrefl 0)

theorem mayWait_of_above (c : Dev nD) (sm : SemLoc sig) (O : CellTallies nD τ sig Unit) (hO : Above (lvk sm) O) :
    (levAts L lv : sProp 𝕄) ⊢ MayWait (c : Thread nD τ) sm () O :=
  MayOwe.of_cut (L := L) (lev := lv) (lvk sm) (fun p hp => by rw [Finset.mem_singleton.mp hp, L_tc]; exact Finset.mem_singleton_self _)
    (fun g u hg => by
      obtain ⟨⟨d, p⟩, sm'⟩ := g
      obtain rfl : p = .tc := (hO _ u hg).1
      rw [L_tc]; exact Finset.mem_singleton_self _)
    (fun p hp => by rw [Finset.mem_singleton.mp hp]; exact le_refl _)
    (fun g u hg => (hO g u hg).2)

theorem above_owe2 (c : Dev nD) : Above 2 (owe2 c) := above_at _ 6 _ (by decide)
theorem above_owe2' (c : Dev nD) : Above 0 (owe2 c) := above_at _ 6 _ (by decide)
theorem above_owe0 (c : Dev nD) : Above 1 (owe0 c) :=
  ((above_at _ 6 _ (by decide)).add (above_at _ 5 _ (by decide))).add (above_at _ 4 _ (by decide))
theorem above_O₀ (c : Dev nD) : Above 0 (O₀ c) :=
  ((((above_at _ 6 _ (by decide)).add (above_at _ 5 _ (by decide))).add (above_at _ 4 _ (by decide))).add
    (above_at _ 0 _ (by decide))).add (above_at _ 0 _ (by decide))
theorem above_zero (n : ℕ) : Above n (0 : CellTallies nD τ sig Unit) := fun g u hg => absurd hg (Nat.lt_irrefl 0)

end Cert.DecodeProof
-- ==== Proof.Local.lean ====
/- The part of the body that a device does alone: one row of the partial result, its maximum and its sum.

   Loads and stores are stated over what a memref reads (`own`): a load gives the values at the
   rectangle, a store overlays the rectangle. -/
module

public import proofs.«01_k».proof.Proof.Sched

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- The weakest precondition of a program of the body on device `c`. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules
variable {sp : CoreSpace} {s : Shape} {e : EltTy} {α : Type}

theorem own_load (c : Dev nD) {Q : α → sProp 𝕄} {M : Memref sig .tc sp s e} {r : LoadRect s} {hl : M.view.LoadsAt r}
    {k : (r.shape.Idx → Elt F e) → Prog (TpuEff nD τ sig (Elt F) Λ₀ .tc) α} (X : s.Idx → Elt F e) :
    own (F := F) c M X ⊢ iprop((own c M X -∗ wpB c (k (fun y => X (r.idx y))) Q) -∗ wpB c (.op (.load M r hl) k) Q) := by
  unfold own owns
  iintro ⟨%f, %hf, H⟩ Hk
  iapply (wp_load 𝒱₀ (c : Thread nD τ) none Set.univ (m := M) (r := r) (S := M.view.set) (View.setOn_subset_set _ _)) $$ H
  iintro H
  have e : M.view.readAt (Elt F) r f = fun y => X (r.idx y) := by
    funext y; rw [View.readAt_apply, hf]
  rw [e]
  iapply Hk
  iexists f
  isplitr; · ipureintro; exact hf
  iexact H

theorem own_store (c : Dev nD) {Q : α → sProp 𝕄} {M : Memref sig .tc sp s e} {r : Rect s} {w : r.shape.Idx → Elt F e} {hx : (M.access r).Stores Finset.univ}
    {hm : Finset.univ = Finset.univ ∨ ∀ a, r.stride a = 1}
    {k : PUnit → Prog (TpuEff nD τ sig (Elt F) Λ₀ .tc) α} (X : s.Idx → Elt F e) :
    own (F := F) c M X ⊢ iprop((own c M (r.overlay X w) -∗ wpB c (k ⟨⟩) Q) -∗ wpB c (.op (.store M r w Finset.univ hx hm) k) Q) := by
  unfold own owns
  iintro ⟨%f, %hf, H⟩ Hk
  iapply (wp_store 𝒱₀ (c : Thread nD τ) none Set.univ (m := M) (r := r) (S := M.view.set)
    (by rw [View.setOn_univ]; exact View.set_slice_subset _ _)) $$ H
  iintro H
  iapply Hk
  iexists _
  isplitr; rotate_left
  · iexact H
  · ipureintro
    funext y
    by_cases hy : y ∈ r.set
    · rw [← Rect.map_emb_univ, Finset.mem_map] at hy
      obtain ⟨j, -, rfl⟩ := hy
      rw [Rect.overlay_emb]
      exact View.read_slice_write_emb r f w (Finset.mem_univ j)
    · rw [Rect.overlay_of_not_mem _ _ _ hy, ← hf]
      exact View.read_slice_write_of_not_mem r f w _ (by rw [Rect.map_emb_univ]; exact hy)

theorem own_load_slice (c : Dev nD) {Q : α → sProp 𝕄} {M : Memref sig .tc sp s e} {r : Rect s} {hr : ∀ a, r.stride a = 1} {hl : M.view.LoadsAt r.toLoadRect}
    {k : (r.shape.Idx → Elt F e) → Prog (TpuEff nD τ sig (Elt F) Λ₀ .tc) α} (X : r.shape.Idx → Elt F e) :
    own (F := F) c (M.slice r hr) X
      ⊢ iprop((own c (M.slice r hr) X -∗ wpB c (k X) Q) -∗ wpB c (.op (.load M r.toLoadRect hl) k) Q) := by
  unfold own owns
  iintro ⟨%f, %hf, H⟩ Hk
  iapply (wp_load_rect 𝒱₀ (c : Thread nD τ) none Set.univ (m := M) (r := r) (S := (M.slice r hr).view.set) subset_rfl) $$ H
  iintro H
  have e : (M.access r).read (Elt F) f = X := hf
  rw [e]
  iapply Hk
  iexists f
  isplitr; · ipureintro; exact hf
  iexact H

theorem own_store_slice (c : Dev nD) {Q : α → sProp 𝕄} {M : Memref sig .tc sp s e} {r : Rect s} {hr : ∀ a, r.stride a = 1} {w : r.shape.Idx → Elt F e}
    {hx : (M.access r).Stores Finset.univ} {hm : Finset.univ = Finset.univ ∨ ∀ a, r.stride a = 1}
    {k : PUnit → Prog (TpuEff nD τ sig (Elt F) Λ₀ .tc) α} (X : r.shape.Idx → Elt F e) :
    own (F := F) c (M.slice r hr) X
      ⊢ iprop((own c (M.slice r hr) w -∗ wpB c (k ⟨⟩) Q) -∗ wpB c (.op (.store M r w Finset.univ hx hm) k) Q) := by
  unfold own owns
  iintro ⟨%f, %hf, H⟩ Hk
  iapply (wp_store 𝒱₀ (c : Thread nD τ) none Set.univ (m := M) (r := r) (S := (M.slice r hr).view.set)
    (by rw [View.setOn_univ])) $$ H
  iintro H
  iapply Hk
  iexists _
  isplitr; rotate_left
  · iexact H
  ipureintro; exact View.read_write_univ (v := (M.slice r hr).view) f w

/-- A load of the whole of what a memref reads. -/
theorem idx_whole {s : Shape} {β : Type} (X : s.Idx → β) {off : Fin s.rank → ℕ} (hz : off = fun _ => 0)
    (inb : ∀ a, off a + s.size a ≤ s.size a) :
    (fun y : (Rect.unit off s.size inb).shape.Idx => X ((Rect.unit off s.size inb).toLoadRect.idx y)) = X := by
  subst hz
  funext y
  congr 1
  funext a
  apply Fin.ext
  show 0 + 1 * (y a).val = (y a).val
  omega

end Rules

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The rectangles of row `i` of the partial result, and of its maxima and sums. -/
abbrev R1 (i : grid0.Coords) : Rect S8x16x64 := Rect.unit (s := S8x16x64) (k0_off1 i) S1x16x64.size (k0_off1_inb i)
abbrev R2 (i : grid0.Coords) : Rect S2x8x16 := Rect.unit (s := S2x8x16) (k0_off2 i) S1x1x16.size (k0_off2_inb i)
abbrev R3 (i : grid0.Coords) : Rect S2x8x16 := Rect.unit (s := S2x8x16) (k0_off3 i) S1x1x16.size (k0_off3_inb i)

/-- The partial results after row `i` is written. -/
def putO (i : grid0.Coords) (q : Vec F S1x16x64 .f32) (kk vv : Vec F S1x16x64x1024 .f32) (X : S8x16x64.Idx → Elt F .f32) :
    S8x16x64.Idx → Elt F .f32 := (R1 i).overlay X (k0_pay8 q kk vv)
def putM (i : grid0.Coords) (q : Vec F S1x16x64 .f32) (kk : Vec F S1x16x64x1024 .f32) (Y : S2x8x16.Idx → Elt F .f32) :
    S2x8x16.Idx → Elt F .f32 := (R3 i).overlay ((R2 i).overlay Y (k0_pay9 q kk)) (k0_pay10 q kk)

set_option maxHeartbeats 1000000 in
/-- The local part up to the last store. -/
theorem part4_run (c : Dev nD) (i : grid0.Coords) {arg1 : Memref sig .tc .smem S1 .i32} {harg1 : arg1.IsWhole}
    {arg2 : Memref sig .tc .vmem S1x16x64 .f32} {harg2 : arg2.IsWhole} {arg3 : Memref sig .tc .vmem S1x16x64x1024 .f32} {harg3 : arg3.IsWhole}
    {arg4 : Memref sig .tc .vmem S1x16x64x1024 .f32} {harg4 : arg4.IsWhole} {arg5 : Memref sig .tc .vmem S16x16x64 .f32} {harg5 : arg5.IsWhole}
    {h6 h7 h8 h9}
    (q : Vec F S1x16x64 .f32) (kk vv : Vec F S1x16x64x1024 .f32) (X : S8x16x64.Idx → Elt F .f32) (Y : S2x8x16.Idx → Elt F .f32)
    (Kt : (Σ' (arg0 : BitVec 32), FVec F S1x1x16 .f32) → sProp 𝕄) :
    iprop((own c arg2 q ∗ own c arg3 kk ∗ own c arg4 vv ∗ own c oM X ∗ own c mM Y)
        ∗ ((own c arg2 q ∗ own c arg3 kk ∗ own c arg4 vv ∗ own c oM (putO i q kk vv X) ∗ own c mM ((R2 i).overlay Y (k0_pay9 q kk)))
            -∗ Kt ⟨BitVec.ofNat 32 (i 0).val, k0_pay10 q kk⟩))
      ⊢ wpB c (k0_part4 (F := F) i arg1 harg1 arg2 harg2 arg3 harg3 arg4 harg4 arg5 harg5 oM h6 mM h7 oR h8 mR h9 cc0_scratch4 cc0_scratch5) Kt := by
  rw [k0_part4_eq_skeleton]; unfold k0_part4_skel
  simp only [Prog.lift, Prog.bind_op, Prog.bind_ret, Prog.pure_eq_ret]
  iintro ⟨⟨H2, H3, H4, Ho, Hm⟩, Hk⟩
  iapply (own_load c q) $$ H2; iintro H2
  iapply (own_load c kk) $$ H3; iintro H3
  iapply (own_load c vv) $$ H4; iintro H4
  rw [idx_whole q hz3, idx_whole kk hz4, idx_whole vv hz4]
  iapply (own_load c X) $$ Ho; iintro Ho
  iapply (own_store c X) $$ Ho; iintro Ho
  iapply (own_load c Y) $$ Hm; iintro Hm
  iapply (own_store c Y) $$ Hm; iintro Hm
  iapply (own_load c _) $$ Hm; iintro Hm
  rw [wpB, wp_ret]; imodintro
  iapply Hk
  unfold putO
  isplitl [H2]; · iexact H2
  isplitl [H3]; · iexact H3
  isplitl [H4]; · iexact H4
  isplitl [Ho]; · iexact Ho
  iexact Hm

end Cert.DecodeProof
-- ==== Proof.Rules.lean ====
/- The ghost state of the exchange and its steps: a barrier unit, a remote copy, the wait for a cell. -/
module

public import proofs.«01_k».proof.Proof.Local

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (v : Vals F)

abbrev inv (K : GSem nD τ sig → ℕ) (c : Dev nD) (k : Fin 7) : sProp 𝕄 := cellInv ER (Rd v) (K (kc c k)) (kc c k)

/-- The records every device may consult: all the invariants, and that round 0 of every barrier cell is reached. -/
def recs (K : GSem nD τ sig → ℕ) : sProp 𝕄 :=
  iprop((bigSep Finset.univ fun p : Dev nD × Fin 7 => inv v K p.1 p.2) ∗ bigSep Finset.univ fun c : Dev nD => reached ER (kc c 0) 0)

instance recs_persistent (K : GSem nD τ sig → ℕ) : BI.Persistent (recs v K) := by unfold recs; infer_instance

theorem recs_inv (K : GSem nD τ sig → ℕ) (c : Dev nD) (k : Fin 7) : recs v K ⊢ inv v K c k := by
  unfold recs
  refine BIBase.Entails.trans ?_ (bigSep_elim (Φ := fun p : Dev nD × Fin 7 => inv v K p.1 p.2) (Finset.mem_univ (c, k)))
  iintro ⟨HI, -⟩
  iexact HI

theorem recs_bar (K : GSem nD τ sig → ℕ) (c : Dev nD) : recs v K ⊢ reached ER (kc c 0) 0 := by
  unfold recs
  refine BIBase.Entails.trans ?_ (bigSep_elim (Φ := fun c : Dev nD => (reached ER (kc c 0) 0 : sProp 𝕄)) (Finset.mem_univ c))
  iintro ⟨-, HR⟩
  iexact HR

/-- What device `c` may raise: both peers' barriers, its send cells, its peers' receive cells. -/
def toks (c : Dev nD) : sProp 𝕄 :=
  iprop(dutyTok ER (kc (px c) 0) 0 false ∗ dutyTok ER (kc (py c) 0) 0 true
    ∗ dutyTok ER (kc c 1) 0 false ∗ dutyTok ER (kc c 2) 0 false ∗ dutyTok ER (kc c 3) 0 false
    ∗ dutyTok ER (kc (px c) 4) 0 false ∗ dutyTok ER (kc (px c) 5) 0 false ∗ dutyTok ER (kc (py c) 6) 0 false)

/-- The credits of device `c`'s waits that others raise. -/
def creds (c : Dev nD) : sProp 𝕄 :=
  iprop(cred (tallyAt (kc c 0) () 2) ∗ cred (tallyAt (kc c 4) () N0) ∗ cred (tallyAt (kc c 5) () N1) ∗ cred (tallyAt (kc c 6) () N0))

/-- An opened scoped cell of device `c`, at its first round. -/
abbrev opened (c : Dev nD) (k : Fin 7) : sProp 𝕄 := iprop(atPos ER (kc c k) 0 ∅ 0 ∗ reached ER (kc c k) 0)

def ghost (K : GSem nD τ sig → ℕ) (c : Dev nD) : sProp 𝕄 :=
  iprop(recs v K ∗ atPos ER (kc c 0) 0 ∅ 0
    ∗ (opened c 1 ∗ opened c 2 ∗ opened c 3 ∗ opened c 4 ∗ opened c 5 ∗ opened c 6) ∗ toks c)

def start (c : Dev nD) : sProp 𝕄 := iprop((∃ K, ghost v K c) ∗ creds c ∗ levAts L lv)

section Steps
variable {α : Type} (K : GSem nD τ sig → ℕ)

theorem signal_run (c d n : Dev nD) (hn : n = d) {Q : α → sProp 𝕄} {k : PUnit → Prog (TpuEff nD τ sig (Elt F) Λ₀ .tc) α} (b : Bool) (O : CellTallies nD τ sig Unit) (W : Waits sig Unit) :
    iprop(inv v K d 0 ∗ owes (c : Thread nD τ) (O + tallyAt (kc d 0) () 1) W ∗ dutyTok ER (kc d 0) 0 b ∗ pay v d 0 b ∗ reached ER (kc d 0) 0)
      ⊢ iprop((owes (c : Thread nD τ) O W -∗ wpB c (k ⟨⟩) Q) -∗ wpB c (.op (.semSignal (Dev.tc n : Thread nD τ) barS (1#32).toNat) k) Q) := by
  subst hn
  rw [← payload_k v n 0 0 b]
  exact Rounds.wp_signal (Q := Q) (defs := defs₀ (F := F)) 𝒱₀ ER (Rd v) (c : Thread nD τ) none (dst := (n : Thread nD τ)) (sem := barS) (k := k)
      (κ := K (kc n 0)) (r := 0) (d := b) (k' := 1) (by rw [show ((n : Thread nD τ), SemLoc.reg barS) = kc n 0 from rfl, duties_bar]; cases b <;> decide)
      (amount_k v n 0 0 b) () (O₀ := O + tallyAt (kc n 0) () 1) O rfl (W := W) (Es := Set.univ)

theorem wait_bar (c : Dev nD) {Q : α → sProp 𝕄} {k : PUnit → Prog (TpuEff nD τ sig (Elt F) Λ₀ .tc) α} (O : CellTallies nD τ sig Unit) (hO : Above 1 O) (W : Waits sig Unit) :
    iprop(inv v K c 0 ∗ cred (tallyAt (kc c 0) () 2) ∗ owes (c : Thread nD τ) O W ∗ levAts L lv ∗ atPos ER (kc c 0) 0 ∅ 0)
      ⊢ iprop(((∃ W', owes (c : Thread nD τ) O W') ∗ atPos ER (kc c 0) (0 + 1) ∅ 0 ∗ payBx (F := F) c ∗ payBy (F := F) c -∗ wpB c (k ⟨⟩) Q)
          -∗ wpB c (.op (.semWait barS (2#32).toNat) k) Q) := by
  iintro ⟨HI, Hc, HO, Hl, Ha⟩ Hk
  iapply (Rounds.wp_wait_rest_token (Q := Q) (defs := defs₀ (F := F)) 𝒱₀ ER (Rd v) (c : Thread nD τ) none (κ := K (kc c 0))
      (wpE_semWait_eq 𝒱₀ (c : Thread nD τ) none Set.univ) (Set.mem_univ _) () (O := O) (W := W) (R := 0) (m := 0) (T := ∅)
      (by rw [show ((c : Thread nD τ), SemLoc.reg barS) = kc c 0 from rfl, expect_bar]; rfl)) $$ [HI Hc HO Hl Ha]
  · isplitl [HI]; · iexact HI
    isplitl [Hc]; · iexact Hc
    isplitl [HO]; · iexact HO
    isplitl [Hl]; · iapply (mayWait_of_above c (SemLoc.reg barS) O hO); iexact Hl
    iexact Ha
  iintro ⟨HO, Ha, -, Hp⟩
  ihave Hp' := (Entails.of_eq (rest_bar v c)) $$ Hp
  iapply Hk
  isplitl [HO]; · iexists _; iexact HO
  isplitl [Ha]; · iexact Ha
  iexact Hp'

theorem wait_dma (c : Dev nD) (kk : Fin 7) (hkk : kk ≠ 0) {q : DmaSem sig} (hq : ksem kk = .dma q) {Q : α → sProp 𝕄}
    {s : Shape} {src dst : Memref sig .tc .vmem s .f32} {h1 h2} (hN : dst.view.dmaCredit = amt kk)
    {k : PUnit → Prog (TpuEff nD τ sig (Elt F) Λ₀ .tc) α} (O : CellTallies nD τ sig Unit) (hO : Above (lvk (ksem kk)) O) (W : Waits sig Unit) :
    iprop(inv v K c kk ∗ cred (tallyAt (kc c kk) () (amt kk)) ∗ owes (c : Thread nD τ) O W ∗ levAts L lv ∗ atPos ER (kc c kk) 0 ∅ 0)
      ⊢ iprop(((∃ W', owes (c : Thread nD τ) O W') ∗ atPos ER (kc c kk) (0 + 1) ∅ 0 ∗ pay v c kk false -∗ wpB c (k ⟨⟩) Q)
          -∗ wpB c (.op (.waitDma2 q src dst h1 h2) k) Q) := by
  have hr := rest_dma v c kk hkk
  have he := expect_dma v c kk hkk
  have hm := mayWait_of_above (F := F) c (ksem kk) O hO
  unfold kc at hr he
  unfold inv kc
  rw [hq] at hr he hm ⊢
  rw [← hN] at he ⊢
  iintro ⟨HI, Hc, HO, Hl, Ha⟩ Hk
  iapply (Rounds.wp_wait_rest_token (Q := Q) (defs := defs₀ (F := F)) 𝒱₀ ER (Rd v) (c : Thread nD τ) none
      (wpE_waitDma2_eq 𝒱₀ (c : Thread nD τ) none Set.univ) (Set.mem_univ _) () (O := O) (W := W) (R := 0) (m := 0) (T := ∅)
      (by rw [he, Nat.zero_add])) $$ [HI Hc HO Hl Ha]
  · isplitl [HI]; · iexact HI
    isplitl [Hc]; · iexact Hc
    isplitl [HO]; · iexact HO
    isplitl [Hl]; · iapply hm; iexact Hl
    iexact Ha
  iintro ⟨HO, Ha, -, Hp⟩
  ihave Hp' := (Entails.of_eq hr) $$ Hp
  iapply Hk
  isplitl [HO]; · iexists _; iexact HO
  isplitl [Ha]; · iexact Ha
  iexact Hp'

theorem send_run (c d n : Dev nD) (hn : n = d) (ks kr : Fin 7) (hks : ks ≠ 0) (hkr : kr ≠ 0) {qs qr : DmaSem sig} (hqs : ksem ks = .dma qs) (hqr : ksem kr = .dma qr)
    {Q : α → sProp 𝕄} {s : Shape} {src dst : Memref sig .tc .vmem s .f32} {hsc h1 h2 h3} (N : ℕ) (hN : dst.view.dmaCredit = N) (hNs : amt ks = N) (hNr : amt kr = N)
    {k : PUnit → Prog (TpuEff nD τ sig (Elt F) Λ₀ .tc) α} (X : s.Idx → Elt F .f32)
    (hp₁ : own c src X ⊢ pay v c ks false) (hp₂ : own d dst X ⊢ pay v d kr false) (O : CellTallies nD τ sig Unit) (W : Waits sig Unit) :
    iprop(inv v K c ks ∗ inv v K d kr ∗ own c src X ∗ (∃ Y, own (F := F) d dst Y) ∗ owes (c : Thread nD τ) (O + tallyAt (kc d kr) () N) W
        ∗ dutyTok ER (kc c ks) 0 false ∗ reached ER (kc c ks) 0 ∗ dutyTok ER (kc d kr) 0 false ∗ reached ER (kc d kr) 0)
      ⊢ iprop((cred (tallyAt (kc c ks) () N) ∗ owes (c : Thread nD τ) O W -∗ wpB c (k ⟨⟩) Q)
          -∗ wpB c (.op (.enqueueDma src (.remote (Dev.tc n : Thread nD τ) dst (.dma qs) hsc) (.dma qr) h1 h2 h3) k) Q) := by
  subst hn
  have hd₁ : false ∈ (Rd v).duties (kc c ks) 0 := by rw [duties_dma v c ks hks]; exact Finset.mem_singleton_self _
  have hd₂ : false ∈ (Rd v).duties (kc n kr) 0 := by rw [duties_dma v n kr hkr]; exact Finset.mem_singleton_self _
  have ha₁ := (amount_k v c ks 0 false).trans hNs
  have ha₂ := (amount_k v n kr 0 false).trans hNr
  have hy₁ := payload_k v c ks 0 false
  have hy₂ := payload_k v n kr 0 false
  unfold kc at hd₁ hd₂ ha₁ ha₂ hy₁ hy₂
  unfold inv kc
  rw [hqs] at hd₁ ha₁ hy₁ ⊢
  rw [hqr] at hd₂ ha₂ hy₂ ⊢
  have hs : own c src X ⊢ iprop(∃ f, ⌜src.view.read (Elt F) f = X⌝ ∗ (src.view.loc (c : Thread nD τ) ↦[src.view.set]{fullShare} f)) := .rfl
  have hd : iprop(∃ Y, own (F := F) n dst Y)
      ⊢ iprop(∃ Y, ∃ f, ⌜dst.view.read (Elt F) f = Y⌝ ∗ (dst.view.loc (n : Thread nD τ) ↦[dst.view.set]{fullShare} f)) := .rfl
  iintro ⟨HI, HJ, Hs', Hd', HO, Ht₁, Hr₁, Ht₂, Hr₂⟩ Hk
  ihave Hs'' := hs $$ Hs'
  icases Hs'' with ⟨%f, %hf, Hs⟩
  ihave Hd'' := hd $$ Hd'
  icases Hd'' with ⟨%Y, %g, %hg, Hd⟩
  iapply (Rounds.wp_send_pointsTo (Q := Q) (defs := defs₀ (F := F)) 𝒱₀ ER (Rd v) (c : Thread nD τ) none (κ₁ := K ((c : Thread nD τ), .dma qs)) (κ₂ := K ((n : Thread nD τ), .dma qr))
    (r₁ := 0) (r₂ := 0) (d₁ := false) (d₂ := false) (fs := f) (fd := g) hd₁ hd₂ () () N hN ha₁ ha₂ O rfl (W := W)
    (by rw [hy₁]
        refine BIBase.Entails.trans ?_ hp₁
        unfold own owns
        iintro H; iexists f; isplitr; · ipureintro; exact hf
        iexact H)
    (by rw [hy₂]
        refine BIBase.Entails.trans ?_ hp₂
        unfold own owns
        iintro H; iexists _; isplitr; rotate_left
        · iexact H
        ipureintro; rw [View.read_write_univ]; exact hf)) $$ [HI HJ Hs Hd HO Ht₁ Hr₁ Ht₂ Hr₂]
  · isplitl [HI]; · iexact HI
    isplitl [HJ]; · iexact HJ
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

theorem close_run (c : Dev nD) (k : Fin 7) :
    iprop(inv v K c k ∗ atPos ER (kc c k) (0 + 1) ∅ 0) ⊢ iprop(|={Set.univ}=> semVal (kc c k) 0) :=
  Rounds.cell_close ER (Rd v) (Set.mem_univ _) (fun h => h) (R := 0 + 1) (duties_later v (kc c k))

end Steps

end Cert.DecodeProof
-- ==== Proof.Exch.lean ====
/- The body on one device: a step before the last, and the last step with the exchange. -/
module

public import proofs.«01_k».proof.Proof.Rules

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (v : Vals F)

/-- The body on memrefs that the staging buffers of the step fill. -/
abbrev bodyAt (i : grid0.Coords) (arg2 : Memref sig .tc .vmem S1x16x64 .f32) (h2 : arg2.IsWhole) (arg3 : Memref sig .tc .vmem S1x16x64x1024 .f32) (h3 : arg3.IsWhole)
    (arg4 : Memref sig .tc .vmem S1x16x64x1024 .f32) (h4 : arg4.IsWhole) (arg5 : Memref sig .tc .vmem S16x16x64 .f32) (h5 : arg5.IsWhole) :
    Prog (TpuEff nD τ sig (Elt F) Λ₀ .tc) PUnit :=
  cc0__body (F := F) i tabM (Memref.isWhole_whole _) arg2 h2 arg3 h3 arg4 h4 arg5 h5 oM (Memref.isWhole_whole _) mM (Memref.isWhole_whole _)
    oR (Memref.isWhole_whole _) mR (Memref.isWhole_whole _) cc0_scratch4 cc0_scratch5

set_option maxHeartbeats 1000000 in
/-- A step before the last. -/
theorem body_idle (c : Dev nD) (i : grid0.Coords) (h1 : ¬ k0_cond1 i = 1#1) {arg2 h2 arg3 h3 arg4 h4 arg5 h5}
    (q : Vec F S1x16x64 .f32) (kk vv : Vec F S1x16x64x1024 .f32) (X : S8x16x64.Idx → Elt F .f32) (Y : S2x8x16.Idx → Elt F .f32)
    (Kt : PUnit → sProp 𝕄) :
    iprop((own c arg2 q ∗ own c arg3 kk ∗ own c arg4 vv ∗ own c oM X ∗ own c mM Y)
        ∗ ((own c arg2 q ∗ own c arg3 kk ∗ own c arg4 vv ∗ own c oM (putO i q kk vv X) ∗ own c mM (putM i q kk Y)) -∗ Kt ⟨⟩))
      ⊢ wpB c (bodyAt i arg2 h2 arg3 h3 arg4 h4 arg5 h5) Kt := by
  unfold bodyAt
  rw [cc0__body_eq_skeleton]; unfold cc0__body_skel
  rw [wpB, wp_bind]
  iintro ⟨⟨H2, H3, H4, Ho, Hm⟩, Hk⟩
  iapply (part4_run c i q kk vv X Y _)
  isplitl [H2 H3 H4 Ho Hm]
  · isplitl [H2]; · iexact H2
    isplitl [H3]; · iexact H3
    isplitl [H4]; · iexact H4
    isplitl [Ho]; · iexact Ho
    iexact Hm
  iintro ⟨H2, H3, H4, Ho, Hm⟩
  rw [dif_neg h1]
  simp only [Prog.lift, Prog.bind_op, Prog.bind_ret, Prog.pure_eq_ret]
  iapply (own_store c _) $$ Hm; iintro Hm
  rw [wpB, wp_ret]; imodintro
  iapply Hk
  unfold putM
  isplitl [H2]; · iexact H2
  isplitl [H3]; · iexact H3
  isplitl [H4]; · iexact H4
  isplitl [Ho]; · iexact Ho
  iexact Hm

theorem chk_ok (c : Dev nD) (i : grid0.Coords) : k0_chk1 i (bw c) :=
  ⟨fun _ => by revert c; decide, fun _ => inb4 c, fun _ => inb5 c⟩

theorem dev1_px (c : Dev nD) (h : k0_dev1 c < nD) : (⟨k0_dev1 c, h⟩ : Dev nD) = px c := Fin.ext (k0_dev1_eq c)
theorem dev3_px (c : Dev nD) (h : k0_dev3 c < nD) : (⟨k0_dev3 c, h⟩ : Dev nD) = px c := Fin.ext (k0_dev3_eq c)
theorem dev4_px (c : Dev nD) (h : k0_dev4 c < nD) : (⟨k0_dev4 c, h⟩ : Dev nD) = px c := Fin.ext (k0_dev4_eq c)
theorem dev2_py (c : Dev nD) (h : k0_dev2 c < nD) : (⟨k0_dev2 c, h⟩ : Dev nD) = py c := Fin.ext (k0_dev2_eq c)
theorem dev5_py (c : Dev nD) (h : k0_dev5 c < nD) : (⟨k0_dev5 c, h⟩ : Dev nD) = py c := Fin.ext (k0_dev5_eq c)

/-- The combined half, from the two partial results of a device and of its peer. -/
def comb (o o' : S8x16x64.Idx → Elt F .f32) (ml ml' : S2x8x16.Idx → Elt F .f32) : S8x16x64.Idx → Elt F .f32 :=
  k0_pay4
    (k0_pay1 (fun y => ml ((Rect.unit (s := S2x8x16) ![0, 0, 0] S1x8x16.size inb_S2x8x16_S1x8x16_0_0_0).toLoadRect.idx y)))
    (k0_pay2 (fun y => ml ((Rect.unit (s := S2x8x16) ![1, 0, 0] S1x8x16.size inb_S2x8x16_S1x8x16_1_0_0).toLoadRect.idx y)))
    (k0_pay3 (fun y => ml' ((Rect.unit (s := S2x8x16) ![0, 0, 0] S1x8x16.size inb_S2x8x16_S1x8x16_0_0_0).toLoadRect.idx y)))
    (fun y => ml' ((Rect.unit (s := S2x8x16) ![1, 0, 0] S1x8x16.size inb_S2x8x16_S1x8x16_1_0_0).toLoadRect.idx y))
    o o'

/-- What the exchange begins with. -/
def exPre (K : GSem nD τ sig → ℕ) (c : Dev nD) : sProp 𝕄 :=
  iprop(ghost v K c ∗ creds c ∗ levAts L lv ∗ (∃ W, owes (c : Thread nD τ) (O₀ c) W)
    ∗ own c tabM (fun _ => bw c) ∗ (∃ X, own (F := F) c oR X) ∗ (∃ X, own (F := F) c mR X)
    ∗ (∃ X, own (F := F) c (outH c) X) ∗ (∃ X, own (F := F) c (outH (py c)) X))

/-- What it ends with: the two halves of the result, the buffers back, every semaphore at zero. -/
def exPost (c : Dev nD) : sProp 𝕄 :=
  iprop(own c (outH c) (v.cb c) ∗ own c (outH (py c)) (v.cb (py c))
    ∗ own c tabM (fun _ => bw c) ∗ own c oM (v.o c) ∗ own c mM (v.ml c) ∗ (∃ X, own (F := F) c oR X) ∗ (∃ X, own (F := F) c mR X)
    ∗ (∃ W, owes (c : Thread nD τ) 0 W) ∗ levAts L lv
    ∗ semVal (kc c 0) 0 ∗ semVal (kc c 1) 0 ∗ semVal (kc c 2) 0 ∗ semVal (kc c 3) 0 ∗ semVal (kc c 4) 0 ∗ semVal (kc c 5) 0 ∗ semVal (kc c 6) 0)

theorem own_off (c d : Dev nD) (X : S8x16x64.Idx → Elt F .f32) :
    own (F := F) c (outH d) X
      = own c (outM.slice (Rect.unit (s := S16x16x64) (k0_off4 (bw d)) S8x16x64.size (inb4 d)) (fun _ => rfl)) X := by
  have key : ∀ (off off' : Fin 3 → ℕ) (h : off = off') (i1 : ∀ a : Fin 3, off a + S8x16x64.size a ≤ S16x16x64.size a) (i2 : ∀ a : Fin 3, off' a + S8x16x64.size a ≤ S16x16x64.size a),
      own (F := F) c (outM.slice (Rect.unit (s := S16x16x64) off S8x16x64.size i1) (fun _ => rfl)) X
        = own c (outM.slice (Rect.unit (s := S16x16x64) off' S8x16x64.size i2) (fun _ => rfl)) X := by
    intro off off' h i1 i2; subst h; rfl
  exact key _ _ (off4_off5 d).symm _ _

theorem cr1 : oM.view.dmaCredit = amt 1 := rfl
theorem cr2 : mM.view.dmaCredit = amt 2 := rfl
theorem cr4 : oR.view.dmaCredit = amt 4 := rfl
theorem cr5 : mR.view.dmaCredit = amt 5 := rfl
theorem cr3 (c : Dev nD) : (outH c).view.dmaCredit = amt 3 := rfl
theorem cr6 (c : Dev nD) : (outH c).view.dmaCredit = amt 6 := rfl

theorem pay4_px (c : Dev nD) : own (px c) oR (v.o c) ⊢ pay v (px c) 4 false := by unfold pay; rw [px_px]
theorem pay5_px (c : Dev nD) : own (px c) mR (v.ml c) ⊢ pay v (px c) 5 false := by unfold pay; rw [px_px]
theorem pay6_py (c : Dev nD) : own (py c) (outH c) (v.cb c) ⊢ pay v (py c) 6 false := by unfold pay; rw [py_py]

set_option maxHeartbeats 4000000 in
/-- The last step. -/
theorem body_last (c : Dev nD) (i : grid0.Coords) (h1 : k0_cond1 i = 1#1) {arg2 h2 arg3 h3 arg4 h4 h5}
    (q : Vec F S1x16x64 .f32) (kk vv : Vec F S1x16x64x1024 .f32) (X : S8x16x64.Idx → Elt F .f32) (Y : S2x8x16.Idx → Elt F .f32)
    (hX : putO i q kk vv X = v.o c) (hY : putM i q kk Y = v.ml c)
    (hcb : v.cb c = comb (v.o c) (v.o (px c)) (v.ml c) (v.ml (px c)))
    (K : GSem nD τ sig → ℕ) (Kt : PUnit → sProp 𝕄) :
    iprop((own c arg2 q ∗ own c arg3 kk ∗ own c arg4 vv ∗ own c oM X ∗ own c mM Y ∗ exPre v K c)
        ∗ ((own c arg2 q ∗ own c arg3 kk ∗ own c arg4 vv ∗ exPost v c) -∗ Kt ⟨⟩))
      ⊢ wpB c (bodyAt i arg2 h2 arg3 h3 arg4 h4 outM h5) Kt := by
  unfold bodyAt
  rw [cc0__body_eq_skeleton]; unfold cc0__body_skel
  rw [wpB, wp_bind]
  iintro ⟨⟨H2, H3, H4, Ho, Hm, Hex⟩, Hk⟩
  iapply (part4_run c i q kk vv X Y _)
  isplitl [H2 H3 H4 Ho Hm]
  · isplitl [H2]; · iexact H2
    isplitl [H3]; · iexact H3
    isplitl [H4]; · iexact H4
    isplitl [Ho]; · iexact Ho
    iexact Hm
  iintro ⟨H2, H3, H4, Ho, Hm⟩
  rw [dif_pos h1]
  rw [k0_part1_eq_skeleton, k0_part2_eq_skeleton, k0_part3_eq_skeleton]
  unfold k0_part1_skel k0_part2_skel k0_part3_skel
  simp only [semSignalWord, semWaitWord, smemLoad, smemLoadElt, Prog.lift, Prog.bind_op, Prog.bind_ret, Prog.pure_eq_ret, Prog.bind_assoc]
  iapply (own_store c _) $$ Hm; iintro Hm
  rw [show (R3 i).overlay ((R2 i).overlay Y (k0_pay9 q kk)) (k0_pay10 q kk) = v.ml c from hY, hX]
  simp only [wpB, wp_deviceId]
  unfold exPre ghost toks creds
  icases Hex with ⟨⟨#HR, HaB, ⟨⟨Ha1, #Hr1⟩, ⟨Ha2, #Hr2⟩, ⟨Ha3, #Hr3⟩, ⟨Ha4, #Hr4⟩, ⟨Ha5, #Hr5⟩, ⟨Ha6, #Hr6⟩⟩, HtX, HtY, Ht1, Ht2, Ht3, Ht4, Ht5, Ht6⟩, ⟨HcB, Hc4, Hc5, Hc6⟩, #Hlev, ⟨%W, HO⟩, Htab, HoR, HmR, HhS, HhP⟩
  iapply (own_load c (fun _ => bw c)) $$ Htab; iintro Htab
  simp only [wp_assume_of 𝒱₀ (c : Thread nD τ) none Set.univ (d := k0_chk1.dec i (bw c)) (chk_ok c i)]
  -- the two barrier units, with what they hand over
  iapply (signal_run v K c (px c) _ (dev1_px c _) false (oweB c) W) $$ [HO HtX HoR HmR]
  · isplitr; · iapply (recs_inv v K (px c) 0); iexact HR
    isplitl [HO]; · iexact HO
    isplitl [HtX]; · iexact HtX
    isplitl [HoR HmR]
    · unfold pay payBx
      rw [px_px]
      isplitl [HoR]; · iexact HoR
      isplitl [HmR]; · iexact HmR
      isplitr; · iexact Hr4
      iexact Hr5
    iapply (recs_bar v K (px c)); iexact HR
  iintro HO
  iapply (signal_run v K c (py c) _ (dev2_py c _) true (owe0 c) W) $$ [HO HtY HhP]
  · isplitr; · iapply (recs_inv v K (py c) 0); iexact HR
    isplitl [HO]; · iexact HO
    isplitl [HtY]; · iexact HtY
    isplitl [HhP]
    · unfold pay payBy
      rw [py_py]
      isplitl [HhP]; · iexact HhP
      iexact Hr6
    iapply (recs_bar v K (py c)); iexact HR
  iintro HO
  iapply (wait_bar v K c (owe0 c) (above_owe0 c) W) $$ [HO HcB HaB]
  · isplitr; · iapply (recs_inv v K c 0); iexact HR
    isplitl [HcB]; · iexact HcB
    isplitl [HO]; · iexact HO
    isplitr; · iexact Hlev
    iexact HaB
  unfold payBx payBy
  iintro ⟨⟨%W1, HO⟩, HaB, ⟨HpO, HpM, #HrX4, #HrX5⟩, ⟨HpH, #HrY6⟩⟩
  -- the partial results to the peer
  iapply (send_run v K c (px c) _ (dev3_px c _) 1 4 (by decide) (by decide) rfl rfl (src := oM) (dst := oR) N0 cr4 rfl rfl (v.o c) .rfl
    (pay4_px v c) (owe1 c) W1) $$ [Ho HpO HO Ht1 Ht4]
  · isplitr; · iapply (recs_inv v K c 1); iexact HR
    isplitr; · iapply (recs_inv v K (px c) 4); iexact HR
    isplitl [Ho]; · iexact Ho
    isplitl [HpO]; · iexact HpO
    isplitl [HO]; · iexact HO
    isplitl [Ht1]; · iexact Ht1
    isplitr; · iexact Hr1
    isplitl [Ht4]; · iexact Ht4
    iexact HrX4
  iintro ⟨Hc1, HO⟩
  iapply (send_run v K c (px c) _ (dev4_px c _) 2 5 (by decide) (by decide) rfl rfl (src := mM) (dst := mR) N1 cr5 rfl rfl (v.ml c) .rfl
    (pay5_px v c) (owe2 c) W1) $$ [Hm HpM HO Ht2 Ht5]
  · isplitr; · iapply (recs_inv v K c 2); iexact HR
    isplitr; · iapply (recs_inv v K (px c) 5); iexact HR
    isplitl [Hm]; · iexact Hm
    isplitl [HpM]; · iexact HpM
    isplitl [HO]; · iexact HO
    isplitl [Ht2]; · iexact Ht2
    isplitr; · iexact Hr2
    isplitl [Ht5]; · iexact Ht5
    iexact HrX5
  iintro ⟨Hc2, HO⟩
  iapply (wait_dma v K c 1 (by decide) rfl (src := oR) (dst := oM) cr1 (owe2 c) (above_owe2' c) W1) $$ [Hc1 HO Ha1]
  · isplitr; · iapply (recs_inv v K c 1); iexact HR
    isplitl [Hc1]; · iexact Hc1
    isplitl [HO]; · iexact HO
    isplitr; · iexact Hlev
    iexact Ha1
  iintro ⟨⟨%W2, HO⟩, Ha1, Ho⟩
  iapply (wait_dma v K c 4 (by decide) rfl (src := oM) (dst := oR) cr4 (owe2 c) (above_owe2 c) W2) $$ [Hc4 HO Ha4]
  · isplitr; · iapply (recs_inv v K c 4); iexact HR
    isplitl [Hc4]; · iexact Hc4
    isplitl [HO]; · iexact HO
    isplitr; · iexact Hlev
    iexact Ha4
  iintro ⟨⟨%W3, HO⟩, Ha4, HoR⟩
  iapply (wait_dma v K c 2 (by decide) rfl (src := mR) (dst := mM) cr2 (owe2 c) (above_owe2' c) W3) $$ [Hc2 HO Ha2]
  · isplitr; · iapply (recs_inv v K c 2); iexact HR
    isplitl [Hc2]; · iexact Hc2
    isplitl [HO]; · iexact HO
    isplitr; · iexact Hlev
    iexact Ha2
  iintro ⟨⟨%W4, HO⟩, Ha2, Hm⟩
  iapply (wait_dma v K c 5 (by decide) rfl (src := mM) (dst := mR) cr5 (owe2 c) (above_owe2 c) W4) $$ [Hc5 HO Ha5]
  · isplitr; · iapply (recs_inv v K c 5); iexact HR
    isplitl [Hc5]; · iexact Hc5
    isplitl [HO]; · iexact HO
    isplitr; · iexact Hlev
    iexact Ha5
  iintro ⟨⟨%W5, HO⟩, Ha5, HmR⟩
  simp only [pay]
  -- the combined half
  iapply (own_load c (v.ml c)) $$ Hm; iintro Hm
  iapply (own_load c (v.ml c)) $$ Hm; iintro Hm
  iapply (own_load c (v.ml (px c))) $$ HmR; iintro HmR
  iapply (own_load c (v.ml (px c))) $$ HmR; iintro HmR
  iapply (own_load c (v.o c)) $$ Ho; iintro Ho
  iapply (own_load c (v.o (px c))) $$ HoR; iintro HoR
  rw [idx_whole (v.o c) hz3, idx_whole (v.o (px c)) hz3]
  icases HhS with ⟨%XS, HhS⟩
  ihave HhS' := (Entails.of_eq (own_off c c XS)) $$ HhS
  iapply (own_load_slice c XS) $$ HhS'; iintro HhS
  iapply (own_store_slice c XS) $$ HhS; iintro HhS
  ihave HhS := (Entails.of_eq (own_off c c _).symm) $$ HhS
  unfold comb at hcb
  erw [← hcb]
  -- the combined half to the device with the other half of the batch
  iapply (send_run v K c (py c) _ (dev5_py c _) 3 6 (by decide) (by decide) rfl rfl (src := outH c) (dst := outH c) N0 (cr3 c) rfl rfl (v.cb c) .rfl
    (pay6_py v c) 0 W5) $$ [HhS HpH HO Ht3 Ht6]
  · isplitr; · iapply (recs_inv v K c 3); iexact HR
    isplitr; · iapply (recs_inv v K (py c) 6); iexact HR
    isplitl [HhS]; · iexact HhS
    isplitl [HpH]; · iexact HpH
    isplitl [HO]; · rw [zero_add]; iexact HO
    isplitl [Ht3]; · iexact Ht3
    isplitr; · iexact Hr3
    isplitl [Ht6]; · iexact Ht6
    iexact HrY6
  iintro ⟨Hc3, HO⟩
  iapply (wait_dma v K c 3 (by decide) rfl (src := outH c) (dst := outH c) (cr3 c) 0 (above_zero _) W5) $$ [Hc3 HO Ha3]
  · isplitr; · iapply (recs_inv v K c 3); iexact HR
    isplitl [Hc3]; · iexact Hc3
    isplitl [HO]; · iexact HO
    isplitr; · iexact Hlev
    iexact Ha3
  iintro ⟨⟨%W6, HO⟩, Ha3, HhS⟩
  iapply (wait_dma v K c 6 (by decide) rfl (src := outH c) (dst := outH c) (cr6 c) 0 (above_zero _) W6) $$ [Hc6 HO Ha6]
  · isplitr; · iapply (recs_inv v K c 6); iexact HR
    isplitl [Hc6]; · iexact Hc6
    isplitl [HO]; · iexact HO
    isplitr; · iexact Hlev
    iexact Ha6
  iintro ⟨⟨%W7, HO⟩, Ha6, HhP⟩
  simp only [pay]
  -- every round is over
  rw [wpB, wp_ret]
  imod (close_run v K c 0) $$ [HaB] with Hz0
  · isplitr; · iapply (recs_inv v K c 0); iexact HR
    iexact HaB
  imod (close_run v K c 1) $$ [Ha1] with Hz1
  · isplitr; · iapply (recs_inv v K c 1); iexact HR
    iexact Ha1
  imod (close_run v K c 2) $$ [Ha2] with Hz2
  · isplitr; · iapply (recs_inv v K c 2); iexact HR
    iexact Ha2
  imod (close_run v K c 3) $$ [Ha3] with Hz3
  · isplitr; · iapply (recs_inv v K c 3); iexact HR
    iexact Ha3
  imod (close_run v K c 4) $$ [Ha4] with Hz4
  · isplitr; · iapply (recs_inv v K c 4); iexact HR
    iexact Ha4
  imod (close_run v K c 5) $$ [Ha5] with Hz5
  · isplitr; · iapply (recs_inv v K c 5); iexact HR
    iexact Ha5
  imod (close_run v K c 6) $$ [Ha6] with Hz6
  · isplitr; · iapply (recs_inv v K c 6); iexact HR
    iexact Ha6
  imodintro
  iapply Hk
  unfold exPost
  isplitl [H2]; · iexact H2
  isplitl [H3]; · iexact H3
  isplitl [H4]; · iexact H4
  isplitl [HhS]; · iexact HhS
  isplitl [HhP]; · iexact HhP
  isplitl [Htab]; · iexact Htab
  isplitl [Ho]; · iexact Ho
  isplitl [Hm]; · iexact Hm
  isplitl [HoR]; · iexists _; iexact HoR
  isplitl [HmR]; · iexists _; iexact HmR
  isplitl [HO]; · iexists _; iexact HO
  isplitr; · iexact Hlev
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  iexact Hz6

end Cert.DecodeProof
-- ==== Proof.Data.lean ====
/- What the buffers hold at each grid step, and the data the pipeline's rule takes. -/
module

public import proofs.«01_k».proof.Proof.Exch

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The table -/

/-- What a device's table holds. -/
def tab (c : Dev nD) : pre0.Contents (Elt F) := fun k => match k with
  | ⟨0, _⟩ => fun _ => bw c

theorem tr1_eq (c : Dev nD) (i : grid0.Coords) : cc0_transform_1 (F := F) inb_S1_S1_0 numel1_S1 (tab c) i = ![(i 0).val + 8 * (c.val % 2), 0, 0, 0] := by
  have key : ∀ (c : Dev nD) (n : Fin 8), (Scalar.addi (BitVec.ofNat 32 n.val) (bw c)).toNat = n.val + 8 * (c.val % 2) := by decide
  unfold cc0_transform_1
  show ![(Scalar.addi (BitVec.ofNat 32 (i 0).val) (bw c)).toNat, 0, 0, 0] = _
  rw [key c (i 0)]

theorem ok_tab (c : Dev nD) : ok0 (F := F) (tab c) := by
  have h : ∀ i : grid0.Coords, ∃ h : (∀ a, (cc0_transform_1 (F := F) inb_S1_S1_0 numel1_S1 (tab c) i a + 1) * S1x16x64x1024.size a ≤ S16x16x64x1024.size a), EltTy.bits .f32 = 32 ∨ (Rect.block (s := S16x16x64x1024) S1x16x64x1024.size (cc0_transform_1 (F := F) inb_S1_S1_0 numel1_S1 (tab c) i) h).WholeWords (EltTy.packing .f32) := by
    intro i
    refine ⟨?_, Or.inl rfl⟩
    rw [tr1_eq]
    intro a
    have h0 := (i 0).isLt
    have h1 : c.val % 2 < 2 := Nat.mod_lt _ (by decide)
    have : (i 0).val < 8 := h0
    fin_cases a
    · show ((i 0).val + 8 * (c.val % 2) + 1) * 1 ≤ 16; omega
    · show (0 + 1) * 16 ≤ 16; omega
    · show (0 + 1) * 64 ≤ 64; omega
    · show (0 + 1) * 1024 ≤ 1024; omega
  exact ⟨h, h⟩

def adm (c : Dev nD) : (pcfg0 (F := F)).Adm := ⟨tab c, ok_tab c⟩
abbrev admP (c : Dev nD) : (p : Fin 1) → (pcfgs (F := F) p).Adm := fun _ => adm c

/-! ## The contents -/

/-- The blocks of a grid step. -/
def qB (c : Dev nD) (t : Fin grid0.N) : Vec F S1x16x64 .f32 := ((win0 (F := F) (adm c) 0).blk t).view.read (Elt F) (V1 m c main_v14)
def kB (c : Dev nD) (t : Fin grid0.N) : Vec F S1x16x64x1024 .f32 := ((win0 (F := F) (adm c) 1).blk t).view.read (Elt F) (V1 m c main_v6)
def vB (c : Dev nD) (t : Fin grid0.N) : Vec F S1x16x64x1024 .f32 := ((win0 (F := F) (adm c) 2).blk t).view.read (Elt F) (V1 m c main_v7)

/-- A row of the batch half as a grid step. -/
def pt (n : Fin 8) : Fin grid0.N := n.cast N_0.symm

/-- Positions by their coordinates. -/
def row1 (h : Fin 16) (d : Fin 64) : S1x16x64.Idx := fun a => match a with | ⟨0, _⟩ => (0 : Fin 1) | ⟨1, _⟩ => h | ⟨2, _⟩ => d
def row2 (h : Fin 16) : S1x1x16.Idx := fun a => match a with | ⟨0, _⟩ => (0 : Fin 1) | ⟨1, _⟩ => (0 : Fin 1) | ⟨2, _⟩ => h
def row8 (b : Fin 8) (h : Fin 16) (d : Fin 64) : S8x16x64.Idx := fun a => match a with | ⟨0, _⟩ => b | ⟨1, _⟩ => h | ⟨2, _⟩ => d

/-- The partial results of a device: per row of its half of the batch, the weighted sum, and the row maxima and the sums. -/
def oV (c : Dev nD) : S8x16x64.Idx → Elt F .f32 := fun j =>
  k0_pay8 (qB m c (pt (j 0))) (kB m c (pt (j 0))) (vB m c (pt (j 0))) (row1 (j 1) (j 2))
def mlV (c : Dev nD) : S2x8x16.Idx → Elt F .f32 := fun j =>
  if (j 0).val = 0 then k0_pay9 (qB m c (pt (j 1))) (kB m c (pt (j 1))) (row2 (j 2))
  else k0_pay10 (qB m c (pt (j 1))) (kB m c (pt (j 1))) (row2 (j 2))

/-- What the exchanges carry. -/
def vals : Vals F where
  o := oV m
  ml := mlV m
  cb c := comb (oV m c) (oV m (px c)) (mlV m c) (mlV m (px c))

/-- The result on a device: its own half of the batch, and its peer's. -/
def outV (c : Dev nD) : S16x16x64.Idx → Elt F .f32 := fun j =>
  (if (j 0).val / 8 = c.val % 2 then (vals m).cb c else (vals m).cb (py c))
    (row8 ⟨(j 0).val % 8, Nat.mod_lt _ (by decide)⟩ (j 1) (j 2))

/-- Up to row `n` a buffer holds the partial results. -/
def partO (c : Dev nD) (n : ℕ) (X : S8x16x64.Idx → Elt F .f32) : Prop := ∀ j : S8x16x64.Idx, (j 0).val < n → X j = oV m c j
def partM (c : Dev nD) (n : ℕ) (Y : S2x8x16.Idx → Elt F .f32) : Prop := ∀ j : S2x8x16.Idx, (j 1).val < n → Y j = mlV m c j

theorem coord0 (t : Fin grid0.N) : (grid0.coords t 0).val = t.val := by revert t; decide

theorem partO_step (c : Dev nD) (t : Fin grid0.N) (X : S8x16x64.Idx → Elt F .f32) (h : partO m c t.val X) :
    partO m c (t.val + 1) (putO (grid0.coords t) (qB m c t) (kB m c t) (vB m c t) X) := by
  intro j hj
  have e := k0_off1_eq (grid0.coords t)
  unfold putO
  by_cases h0 : (j 0).val = t.val
  · have ej : (R1 (grid0.coords t)).emb (row1 (j 1) (j 2)) = j := by
      funext a
      apply Fin.ext
      rw [Rect.emb_apply]
      have ea : k0_off1 (grid0.coords t) a = (![(grid0.coords t 0).val, 0, 0] : Fin 3 → ℕ) a := congrFun e a
      show k0_off1 (grid0.coords t) a + 1 * _ = _
      rw [ea]
      fin_cases a
      · show (grid0.coords t 0).val + 1 * 0 = (j 0).val
        rw [coord0, h0]; omega
      · show 0 + 1 * (j 1).val = (j 1).val; omega
      · show 0 + 1 * (j 2).val = (j 2).val; omega
    have hp : pt (j 0) = t := Fin.ext h0
    conv_lhs => rw [← ej]
    rw [Rect.overlay_emb]
    unfold oV
    rw [hp]
  · rw [Rect.overlay_of_not_mem]
    · exact h j (by omega)
    · intro hm
      obtain ⟨i, hi⟩ := (R1 (grid0.coords t)).exists_idx_of_mem hm
      apply h0
      rw [← hi]
      show k0_off1 (grid0.coords t) 0 + 1 * (i 0).val = t.val
      have ea : k0_off1 (grid0.coords t) 0 = (grid0.coords t 0).val := congrFun e 0
      have : (i 0).val < 1 := (i 0).isLt
      rw [ea, coord0]; omega

theorem partM_step (c : Dev nD) (t : Fin grid0.N) (Y : S2x8x16.Idx → Elt F .f32) (h : partM m c t.val Y) :
    partM m c (t.val + 1) (putM (grid0.coords t) (qB m c t) (kB m c t) Y) := by
  intro j hj
  have e2 := k0_off2_eq (grid0.coords t)
  have e3 := k0_off3_eq (grid0.coords t)
  have m2 : ∀ i : S2x8x16.Idx, i ∈ (R2 (grid0.coords t)).set → (i 0).val = 0 ∧ (i 1).val = t.val := by
    intro i hi
    obtain ⟨y, hy⟩ := (R2 (grid0.coords t)).exists_idx_of_mem hi
    have y0 : (y 0).val < 1 := (y 0).isLt
    have y1 : (y 1).val < 1 := (y 1).isLt
    constructor
    · rw [← hy]
      show k0_off2 (grid0.coords t) 0 + 1 * (y 0).val = 0
      have : k0_off2 (grid0.coords t) 0 = 0 := congrFun e2 0
      omega
    · rw [← hy]
      show k0_off2 (grid0.coords t) 1 + 1 * (y 1).val = t.val
      have : k0_off2 (grid0.coords t) 1 = (grid0.coords t 0).val := congrFun e2 1
      rw [coord0] at this; omega
  have m3 : ∀ i : S2x8x16.Idx, i ∈ (R3 (grid0.coords t)).set → (i 0).val = 1 ∧ (i 1).val = t.val := by
    intro i hi
    obtain ⟨y, hy⟩ := (R3 (grid0.coords t)).exists_idx_of_mem hi
    have y0 : (y 0).val < 1 := (y 0).isLt
    have y1 : (y 1).val < 1 := (y 1).isLt
    constructor
    · rw [← hy]
      show k0_off3 (grid0.coords t) 0 + 1 * (y 0).val = 1
      have : k0_off3 (grid0.coords t) 0 = 1 := congrFun e3 0
      omega
    · rw [← hy]
      show k0_off3 (grid0.coords t) 1 + 1 * (y 1).val = t.val
      have : k0_off3 (grid0.coords t) 1 = (grid0.coords t 0).val := congrFun e3 1
      rw [coord0] at this; omega
  unfold putM
  by_cases h1 : (j 1).val = t.val
  · have hp : pt (j 1) = t := Fin.ext h1
    by_cases h0 : (j 0).val = 0
    · have ej : (R2 (grid0.coords t)).emb (row2 (j 2)) = j := by
        funext a
        apply Fin.ext
        rw [Rect.emb_apply]
        have ea : k0_off2 (grid0.coords t) a = (![0, (grid0.coords t 0).val, 0] : Fin 3 → ℕ) a := congrFun e2 a
        show k0_off2 (grid0.coords t) a + 1 * _ = _
        rw [ea]
        fin_cases a
        · show 0 + 1 * 0 = (j 0).val
          omega
        · show (grid0.coords t 0).val + 1 * 0 = (j 1).val
          rw [coord0, h1]; omega
        · show 0 + 1 * (j 2).val = (j 2).val; omega
      rw [Rect.overlay_of_not_mem _ _ _ (fun hm => by have := (m3 j hm).1; omega)]
      conv_lhs => rw [← ej]
      rw [Rect.overlay_emb]
      unfold mlV
      rw [if_pos h0, hp]
    · have h0' : (j 0).val = 1 := by have : (j 0).val < 2 := (j 0).isLt; omega
      have ej : (R3 (grid0.coords t)).emb (row2 (j 2)) = j := by
        funext a
        apply Fin.ext
        rw [Rect.emb_apply]
        have ea : k0_off3 (grid0.coords t) a = (![1, (grid0.coords t 0).val, 0] : Fin 3 → ℕ) a := congrFun e3 a
        show k0_off3 (grid0.coords t) a + 1 * _ = _
        rw [ea]
        fin_cases a
        · show 1 + 1 * 0 = (j 0).val
          omega
        · show (grid0.coords t 0).val + 1 * 0 = (j 1).val
          rw [coord0, h1]; omega
        · show 0 + 1 * (j 2).val = (j 2).val; omega
      conv_lhs => rw [← ej]
      rw [Rect.overlay_emb]
      unfold mlV
      rw [if_neg h0, hp]
  · rw [Rect.overlay_of_not_mem _ _ _ (fun hm => h1 (m3 j hm).2), Rect.overlay_of_not_mem _ _ _ (fun hm => h1 (m2 j hm).2)]
    exact h j (by omega)

theorem partO_all (c : Dev nD) (X : S8x16x64.Idx → Elt F .f32) (h : partO m c 8 X) : X = (vals m).o c :=
  funext fun j => h j (j 0).isLt
theorem partM_all (c : Dev nD) (Y : S2x8x16.Idx → Elt F .f32) (h : partM m c 8 Y) : Y = (vals m).ml c :=
  funext fun j => h j (j 1).isLt

/-! ## The proof's data -/

/-- The buffers of a device between grid steps before the last. -/
def PhiR (c : Dev nD) (n : ℕ) : sProp 𝕄 :=
  iprop(start (vals m) c ∗ own c tabM (fun _ => bw c)
    ∗ (∃ X, ⌜partO m c n X⌝ ∗ own (F := F) c oM X) ∗ (∃ Y, ⌜partM m c n Y⌝ ∗ own (F := F) c mM Y)
    ∗ (∃ X, own (F := F) c oR X) ∗ (∃ X, own (F := F) c mR X))
/-- And after the last. -/
def PhiE (c : Dev nD) : sProp 𝕄 :=
  iprop(own c tabM (fun _ => bw c) ∗ (∃ X, own (F := F) c oM X) ∗ (∃ X, own (F := F) c mM X) ∗ (∃ X, own (F := F) c oR X) ∗ (∃ X, own (F := F) c mR X)
    ∗ semVal (kc c 0) 0 ∗ semVal (kc c 1) 0 ∗ semVal (kc c 2) 0 ∗ semVal (kc c 3) 0 ∗ semVal (kc c 4) 0 ∗ semVal (kc c 5) 0 ∗ semVal (kc c 6) 0)

def PhiS (c : Dev nD) (n : ℕ) : sProp 𝕄 := if n ≤ 7 then PhiR m c n else PhiE c

def dats (p : Fin 1) (c : Dev nD) : Dat τ (Elt F) Unit ℕ UU ℕ (Pipeline.pinD (pcfgs (F := F)) admP c p) c where
  A w := V1 m c (Proc.devRef .tc (Pipeline.arrRef spec0 w))
  after w t := match w with
    | ⟨0, _⟩ => qB m c t
    | ⟨1, _⟩ => kB m c t
    | ⟨2, _⟩ => vB m c t
    | ⟨3, _⟩ => outV m c
  Φ t := PhiS m c t.val
  q _ := fullShare
  owed t := if t.val ≤ 7 then O₀ c else 0

end Cert.DecodeProof
-- ==== Proof.Body.lean ====
/- The body at every grid step, as the pipeline's rule asks for it. -/
module

public import proofs.«01_k».proof.Proof.Data

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The two halves of the result -/

section Halves
variable (c : Dev nD)

/-- The rows of a device's half, and of its `y` peer's. -/
abbrev rB (b : Bool) : Rect S16x16x64 := rH (cond b (py c) c)

theorem mem_rH (d : Dev nD) (j : S16x16x64.Idx) : j ∈ (rH d).set ↔ (j 0).val / 8 = d.val % 2 := by
  have e := off5_eq d
  have hd : d.val % 2 < 2 := Nat.mod_lt _ (by decide)
  constructor
  · intro h
    obtain ⟨i, hi⟩ := (rH d).exists_idx_of_mem h
    have i0 : (i 0).val < 8 := (i 0).isLt
    have : (j 0).val = k0_off5 (bw d) 0 + 1 * (i 0).val := by rw [← hi]; rfl
    have e0 : k0_off5 (bw d) 0 = 8 * (d.val % 2) := congrFun e 0
    omega
  · intro h
    have key : (rH d).emb (row8 ⟨(j 0).val % 8, Nat.mod_lt _ (by decide)⟩ (j 1) (j 2)) = j := by
      funext a
      apply Fin.ext
      rw [Rect.emb_apply]
      have ea : k0_off5 (bw d) a = (![8 * (d.val % 2), 0, 0] : Fin 3 → ℕ) a := congrFun e a
      show k0_off5 (bw d) a + 1 * _ = _
      rw [ea]
      fin_cases a
      · show 8 * (d.val % 2) + 1 * ((j 0).val % 8) = (j 0).val
        omega
      · show 0 + 1 * (j 1).val = (j 1).val; omega
      · show 0 + 1 * (j 2).val = (j 2).val; omega
    rw [← key, ← Rect.map_emb_univ]
    exact Finset.mem_map_of_mem _ (Finset.mem_univ _)

theorem py_mod : (py c).val % 2 = 1 - c.val % 2 := by revert c; decide

theorem rB_disj : ∀ b b' : Bool, b ≠ b' → Disjoint (rB c b).set (rB c b').set := by
  intro b b' h
  rw [Finset.disjoint_left]
  intro j h1 h2
  have hp := py_mod c
  have hc : c.val % 2 < 2 := Nat.mod_lt _ (by decide)
  cases b <;> cases b'
  · exact h rfl
  · have a1 := (mem_rH c j).mp h1
    have a2 := (mem_rH (py c) j).mp h2
    omega
  · have a1 := (mem_rH (py c) j).mp h1
    have a2 := (mem_rH c j).mp h2
    omega
  · exact h rfl

theorem rB_cov : (Finset.univ : Finset Bool).biUnion (fun b => (rB c b).set) = Finset.univ := by
  ext j
  simp only [Finset.mem_biUnion, Finset.mem_univ, true_and, iff_true]
  have hp := py_mod c
  have hc : c.val % 2 < 2 := Nat.mod_lt _ (by decide)
  have hj : (j 0).val < 16 := (j 0).isLt
  by_cases h : (j 0).val / 8 = c.val % 2
  · exact ⟨false, (mem_rH c j).mpr h⟩
  · exact ⟨true, (mem_rH (py c) j).mpr (by omega)⟩

theorem bigSep_bool (Φ : Bool → sProp 𝕄) : bigSep Finset.univ Φ = iprop(Φ false ∗ Φ true) :=
  bigSep_univ_eq_bigSepL [false, true] (by decide) (by decide) Φ

/-- The result's buffer as its two halves. -/
theorem out_split (X : S16x16x64.Idx → Elt F .f32) :
    own (F := F) c outM X ⊢ iprop((∃ X, own (F := F) c (outH c) X) ∗ (∃ X, own (F := F) c (outH (py c)) X)) := by
  iintro H
  ihave H' := (owns_rects (Ix := Unit) (Name := ℕ) (U := UU) (Lvl := ℕ) (c : Thread nD τ) outM fullShare (rB c) (fun _ _ => rfl) (rB_disj c) (rB_cov c) X) $$ H
  ihave H2 := (Entails.of_eq (bigSep_bool _)) $$ H'
  icases H2 with ⟨H1, H2⟩
  isplitl [H1]
  · iexists _; iexact H1
  · iexists _; iexact H2

theorem out_half (d e : Dev nD) (hd : e.val % 2 = d.val % 2) (j : S8x16x64.Idx) (Y Z : S8x16x64.Idx → Elt F .f32) (k : ℕ) (hk : k = d.val % 2) :
    (fun j : S16x16x64.Idx => (if (j 0).val / 8 = k then Y else Z) (row8 ⟨(j 0).val % 8, Nat.mod_lt _ (by decide)⟩ (j 1) (j 2))) ((rH e).emb j) = Y j := by
  have e5 := off5_eq e
  have h0 : ((rH e).emb j 0).val = 8 * (e.val % 2) + (j 0).val := by
    rw [Rect.emb_apply]
    show k0_off5 (bw e) 0 + 1 * (j 0).val = _
    have : k0_off5 (bw e) 0 = 8 * (e.val % 2) := congrFun e5 0
    omega
  have h1 : (rH e).emb j 1 = j 1 := by
    apply Fin.ext
    rw [Rect.emb_apply]
    show k0_off5 (bw e) 1 + 1 * (j 1).val = _
    have : k0_off5 (bw e) 1 = 0 := congrFun e5 1
    omega
  have h2 : (rH e).emb j 2 = j 2 := by
    apply Fin.ext
    rw [Rect.emb_apply]
    show k0_off5 (bw e) 2 + 1 * (j 2).val = _
    have : k0_off5 (bw e) 2 = 0 := congrFun e5 2
    omega
  have j0 : (j 0).val < 8 := (j 0).isLt
  have hj : row8 ⟨((rH e).emb j 0).val % 8, Nat.mod_lt _ (by decide)⟩ ((rH e).emb j 1) ((rH e).emb j 2) = j := by
    rw [h1, h2]
    funext a
    fin_cases a
    · apply Fin.ext
      show ((rH e).emb j 0).val % 8 = (j 0).val
      omega
    · rfl
    · rfl
  show (if ((rH e).emb j 0).val / 8 = k then Y else Z) (row8 ⟨((rH e).emb j 0).val % 8, _⟩ ((rH e).emb j 1) ((rH e).emb j 2)) = Y j
  rw [if_pos (by omega), hj]

/-- And back, when they hold the two combined halves. -/
theorem out_join : iprop(own c (outH c) ((vals m).cb c) ∗ own c (outH (py c)) ((vals m).cb (py c))) ⊢ own (F := F) c outM (outV m c) := by
  refine BIBase.Entails.trans ?_ (owns_of_rects (Ix := Unit) (Name := ℕ) (U := UU) (Lvl := ℕ) (c : Thread nD τ) outM fullShare (rB c) (fun _ _ => rfl) (rB_disj c) (rB_cov c) (outV m c))
  have e1 : (fun j => outV m c ((rB c false).emb j)) = (vals m).cb c := by
    funext j
    exact out_half c c rfl j _ _ _ rfl
  have e2 : (fun j => outV m c ((rB c true).emb j)) = (vals m).cb (py c) := by
    funext j
    have hp := py_mod c
    have hc : c.val % 2 < 2 := Nat.mod_lt _ (by decide)
    refine Eq.trans ?_ (out_half (py c) (py c) rfl j ((vals m).cb (py c)) ((vals m).cb c) _ rfl)
    unfold outV
    dsimp only
    by_cases h : (((rB c true).emb j) 0).val / 8 = c.val % 2
    · have hm : (rB c true).emb j ∈ (rH (py c)).set := by
        rw [← Rect.map_emb_univ]
        exact Finset.mem_map_of_mem _ (Finset.mem_univ _)
      have := (mem_rH (py c) _).mp hm
      omega
    · have hm : (rB c true).emb j ∈ (rH (py c)).set := by
        rw [← Rect.map_emb_univ]
        exact Finset.mem_map_of_mem _ (Finset.mem_univ _)
      have h' := (mem_rH (py c) _).mp hm
      rw [if_neg h]
      exact (congrFun (if_pos h').symm _)
  refine BIBase.Entails.trans ?_ (Entails.of_eq (bigSep_bool _).symm)
  rw [e1, e2]
  exact .rfl

end Halves

/-! ## The windows -/

theorem flush3 (c : Dev nD) (t : Fin grid0.N) : (win0 (F := F) (adm c) 3).flush t = decide (t.val = 7) := by
  rcases fin_N0 t with rfl | rfl | rfl | rfl | rfl | rfl | rfl | rfl <;> rfl

theorem idx_in (c : Dev nD) : ∀ w : Fin 4, w.val < 3 → ∀ t t' : Fin grid0.N, t ≠ t' → (win0 (F := F) (adm c) w).index t ≠ (win0 (F := F) (adm c) w).index t' := by
  intro w hw t t' htt h
  apply htt
  apply Fin.ext
  have e1 := tr1_eq (F := F) c (grid0.coords t)
  have e2 := tr1_eq (F := F) c (grid0.coords t')
  have c1 := coord0 t
  have c2 := coord0 t'
  match w, hw, h with
  | ⟨0, _⟩, _, h =>
    have h0 : (BitVec.ofNat 32 (grid0.coords t 0).val).toNat = (BitVec.ofNat 32 (grid0.coords t' 0).val).toNat := congrFun h (0 : Fin 3)
    have l1 : t.val < 8 := N_0 ▸ t.isLt
    have l2 : t'.val < 8 := N_0 ▸ t'.isLt
    rw [c1, c2, BitVec.toNat_ofNat, BitVec.toNat_ofNat] at h0
    omega
  | ⟨1, _⟩, _, h =>
    have h' : cc0_transform_1 (F := F) inb_S1_S1_0 numel1_S1 (tab c) (grid0.coords t) = cc0_transform_1 (F := F) inb_S1_S1_0 numel1_S1 (tab c) (grid0.coords t') := h
    rw [e1, e2] at h'
    have h0 : (grid0.coords t 0).val + 8 * (c.val % 2) = (grid0.coords t' 0).val + 8 * (c.val % 2) := congrFun h' (0 : Fin 4)
    omega
  | ⟨2, _⟩, _, h =>
    have h' : cc0_transform_1 (F := F) inb_S1_S1_0 numel1_S1 (tab c) (grid0.coords t) = cc0_transform_1 (F := F) inb_S1_S1_0 numel1_S1 (tab c) (grid0.coords t') := h
    rw [e1, e2] at h'
    have h0 : (grid0.coords t 0).val + 8 * (c.val % 2) = (grid0.coords t' 0).val + 8 * (c.val % 2) := congrFun h' (0 : Fin 4)
    omega

theorem fetch_in (c : Dev nD) (w : Fin 4) (hw : w.val < 3) (t : Fin grid0.N) : (win0 (F := F) (adm c) w).fetch t = true := by
  have hin : (spec0 w).isOut = false := by
    match w, hw with
    | ⟨0, _⟩, _ => rfl
    | ⟨1, _⟩, _ => rfl
    | ⟨2, _⟩, _ => rfl
  unfold Pipeline.Window.fetch
  rw [show (win0 (F := F) (adm c) w).isOut = false from hin]
  by_cases h0 : t.val = 0
  · simp [h0]
  · have : ∃ h : 0 < t.val, (win0 (F := F) (adm c) w).index t ≠ (win0 (F := F) (adm c) w).index ⟨t.val - 1, by omega⟩ :=
      ⟨by omega, idx_in c w hw _ _ (fun e => by have := congrArg Fin.val e; simp at this; omega)⟩
    rw [decide_eq_true this]
    simp

theorem before0 (c : Dev nD) (t : Fin grid0.N) (d) : (dats m 0 c).before (0 : Fin 4) t d = qB m c t := by
  unfold Dat.before; rw [if_pos (fetch_in c 0 (by decide) t)]; rfl
theorem before1 (c : Dev nD) (t : Fin grid0.N) (d) : (dats m 0 c).before (1 : Fin 4) t d = kB m c t := by
  unfold Dat.before; rw [if_pos (fetch_in c 1 (by decide) t)]; rfl
theorem before2 (c : Dev nD) (t : Fin grid0.N) (d) : (dats m 0 c).before (2 : Fin 4) t d = vB m c t := by
  unfold Dat.before; rw [if_pos (fetch_in c 2 (by decide) t)]; rfl

theorem cond1_last (t : Fin grid0.N) : k0_cond1 (grid0.coords t) = 1#1 ↔ t.val = 7 := by
  rcases fin_N0 t with rfl | rfl | rfl | rfl | rfl | rfl | rfl | rfl <;> exact (by decide)

/-! ## The obligation -/

abbrev cfgA (c : Dev nD) : Cfg sig Λ₀ := Pipeline.pinD (pcfgs (F := F)) admP c 0
abbrev stg (c : Dev nD) (w : Fin 4) (t : Fin grid0.N) := ((cfgA (F := F) c).win w).stage ((cfgA (F := F) c).slots t w)

theorem bigSep_W (c : Dev nD) (Φ : Fin (cfgA (F := F) c).W → sProp 𝕄) :
    bigSep Finset.univ Φ = iprop(Φ (0 : Fin 4) ∗ Φ (1 : Fin 4) ∗ Φ (2 : Fin 4) ∗ Φ (3 : Fin 4)) := bigSep_W0 Φ

def owesS (c : Dev nD) (n : ℕ) : sProp 𝕄 := iprop(∃ W, owes (c : Thread nD τ) (if n ≤ 7 then O₀ c else 0) W)

theorem owesAt_of (c : Dev nD) (t : Fin (grid0.N + 1)) : owesS (F := F) c t.val ⊢ (dats m 0 c).owesAt () t := by
  unfold owesS Dat.owesAt Pipeline.owesWithin
  iintro ⟨%W, H⟩
  iexists W
  isplitr
  · ipureintro; exact fun _ _ => Or.inl trivial
  · iexact H
theorem owesAt_to (c : Dev nD) (t : Fin (grid0.N + 1)) : (dats m 0 c).owesAt () t ⊢ owesS (F := F) c t.val := by
  unfold owesS Dat.owesAt Pipeline.owesWithin
  iintro ⟨%W, %hW, H⟩
  iexists W
  iexact H

/-- The result's staging buffer, as the step before left it. -/
def outZ (c : Dev nD) (t : Fin grid0.N) : sProp 𝕄 := iprop(∃ d, own (F := F) c (stg (F := F) c 3 t) ((dats m 0 c).before (3 : Fin 4) t d))

theorem leave_idle (c : Dev nD) (t : Fin grid0.N) (ht : t.val ≠ 7) : outZ m c t ⊢ (dats m 0 c).leavesExact (3 : Fin 4) t := by
  have hi : (cfgA (F := F) c).idle (3 : Fin 4) ((cfgA (F := F) c).grid.coords t) = true := by
    show (!(k0_cond1 (grid0.coords t) == 1#1)) = true
    have := mt (cond1_last t).mp ht
    simpa using this
  have hf : ((cfgA (F := F) c).win (3 : Fin 4)).flush t = false := by
    refine (flush3 c t).trans ?_
    simp [ht]
  rw [(dats m 0 c).leavesExact_idle (3 : Fin 4) t hi hf]
  exact .rfl

theorem leave_last (c : Dev nD) (t : Fin grid0.N) (ht : t.val = 7) : own c (stg (F := F) c 3 t) (outV m c) ⊢ (dats m 0 c).leavesExact (3 : Fin 4) t := by
  have hi : (cfgA (F := F) c).idle (3 : Fin 4) ((cfgA (F := F) c).grid.coords t) = false := by
    show (!(k0_cond1 (grid0.coords t) == 1#1)) = false
    rw [(cond1_last t).mpr ht]; rfl
  unfold Dat.leavesExact
  rw [hi]
  exact .rfl

theorem stg_out (c : Dev nD) (t : Fin grid0.N) : stg (F := F) c 3 t = outM := by
  rcases fin_N0 t with rfl | rfl | rfl | rfl | rfl | rfl | rfl | rfl <;> rfl

/-- A step before the last. -/
theorem step_idle (c : Dev nD) (t : Fin grid0.N) (ht : t.val < 7) {h2 h3 h4 h5} :
    iprop(PhiS m c t.val ∗ owesS (F := F) c t.val ∗ own c (stg (F := F) c 0 t) (qB m c t) ∗ own c (stg (F := F) c 1 t) (kB m c t)
        ∗ own c (stg (F := F) c 2 t) (vB m c t) ∗ outZ m c t)
      ⊢ wpB c (bodyAt (grid0.coords t) (stg (F := F) c 0 t) h2 (stg (F := F) c 1 t) h3 (stg (F := F) c 2 t) h4 (stg (F := F) c 3 t) h5) fun _ =>
          iprop(PhiS m c (t.val + 1) ∗ owesS (F := F) c (t.val + 1) ∗ own c (stg (F := F) c 0 t) (qB m c t) ∗ own c (stg (F := F) c 1 t) (kB m c t)
            ∗ own c (stg (F := F) c 2 t) (vB m c t) ∗ (dats m 0 c).leavesExact (3 : Fin 4) t) := by
  have e1 : PhiS m c t.val = PhiR m c t.val := if_pos (by omega)
  have e2 : PhiS m c (t.val + 1) = PhiR m c (t.val + 1) := if_pos (by omega)
  have e3 : owesS (F := F) c (t.val + 1) = owesS (F := F) c t.val := by
    unfold owesS; rw [if_pos (by omega), if_pos (by omega)]
  rw [e1, e2, e3]
  unfold PhiR
  iintro ⟨⟨Hst, Htab, ⟨%X, %hX, Ho⟩, ⟨%Y, %hY, Hm⟩, Hor, Hmr⟩, HO, H0, H1, H2, HZ⟩
  iapply (body_idle c (grid0.coords t) (mt (cond1_last t).mp (by omega)) (qB m c t) (kB m c t) (vB m c t) X Y _)
  isplitl [H0 H1 H2 Ho Hm]
  · isplitl [H0]; · iexact H0
    isplitl [H1]; · iexact H1
    isplitl [H2]; · iexact H2
    isplitl [Ho]; · iexact Ho
    iexact Hm
  iintro ⟨H0, H1, H2, Ho, Hm⟩
  isplitl [Hst Htab Ho Hm Hor Hmr]
  · isplitl [Hst]; · iexact Hst
    isplitl [Htab]; · iexact Htab
    isplitl [Ho]
    · iexists _; isplitr; rotate_left
      · iexact Ho
      · ipureintro; exact partO_step m c t X hX
    isplitl [Hm]
    · iexists _; isplitr; rotate_left
      · iexact Hm
      · ipureintro; exact partM_step m c t Y hY
    isplitl [Hor]; · iexact Hor
    iexact Hmr
  isplitl [HO]; · iexact HO
  isplitl [H0]; · iexact H0
  isplitl [H1]; · iexact H1
  isplitl [H2]; · iexact H2
  iapply (leave_idle m c t (by omega))
  iexact HZ

/-- The last step. -/
theorem step_last (c : Dev nD) (t : Fin grid0.N) (ht : t.val = 7) {h2 h3 h4 h5} :
    iprop(PhiS m c t.val ∗ owesS (F := F) c t.val ∗ own c (stg (F := F) c 0 t) (qB m c t) ∗ own c (stg (F := F) c 1 t) (kB m c t)
        ∗ own c (stg (F := F) c 2 t) (vB m c t) ∗ outZ m c t)
      ⊢ wpB c (bodyAt (grid0.coords t) (stg (F := F) c 0 t) h2 (stg (F := F) c 1 t) h3 (stg (F := F) c 2 t) h4 (stg (F := F) c 3 t) h5) fun _ =>
          iprop(PhiS m c (t.val + 1) ∗ owesS (F := F) c (t.val + 1) ∗ own c (stg (F := F) c 0 t) (qB m c t) ∗ own c (stg (F := F) c 1 t) (kB m c t)
            ∗ own c (stg (F := F) c 2 t) (vB m c t) ∗ (dats m 0 c).leavesExact (3 : Fin 4) t) := by
  have e1 : PhiS m c t.val = PhiR m c t.val := if_pos (by omega)
  have e2 : PhiS m c (t.val + 1) = PhiE c := if_neg (by omega)
  have hZ : outZ m c t ⊢ iprop(∃ X, own (F := F) c outM X) := by
    unfold outZ
    iintro ⟨%d, H⟩
    iexists _
    iapply (Entails.of_eq (by rw [stg_out c t])) $$ H
  have hL : own c outM (outV m c) ⊢ (dats m 0 c).leavesExact (3 : Fin 4) t :=
    BIBase.Entails.trans (Entails.of_eq (by rw [stg_out c t])) (leave_last m c t ht)
  have key : ∀ (arg5 : Memref sig .tc .vmem S16x16x64 .f32) (h5 : arg5.IsWhole), arg5 = outM →
      iprop(PhiR m c t.val ∗ owesS (F := F) c t.val ∗ own c (stg (F := F) c 0 t) (qB m c t) ∗ own c (stg (F := F) c 1 t) (kB m c t)
        ∗ own c (stg (F := F) c 2 t) (vB m c t) ∗ (∃ X, own (F := F) c outM X))
      ⊢ wpB c (bodyAt (grid0.coords t) (stg (F := F) c 0 t) h2 (stg (F := F) c 1 t) h3 (stg (F := F) c 2 t) h4 arg5 h5) fun _ =>
          iprop(PhiE c ∗ owesS (F := F) c (t.val + 1) ∗ own c (stg (F := F) c 0 t) (qB m c t) ∗ own c (stg (F := F) c 1 t) (kB m c t)
            ∗ own c (stg (F := F) c 2 t) (vB m c t) ∗ own c outM (outV m c)) := by
    intro arg5 h5 e5
    subst e5
    unfold PhiR start
    iintro ⟨⟨⟨⟨%K, Hg⟩, Hc, Hla⟩, Htab, ⟨%X, %hX, Ho⟩, ⟨%Y, %hY, Hm⟩, Hor, Hmr⟩, HO, H0, H1, H2, ⟨%Z, HZ⟩⟩
    have pX := partO_step m c t X hX
    have pY := partM_step m c t Y hY
    rw [ht] at pX pY
    ihave HH := (out_split c Z) $$ HZ
    icases HH with ⟨HZ1, HZ2⟩
    ihave HO' := (Entails.of_eq (show owesS (F := F) c t.val = iprop(∃ W, owes (c : Thread nD τ) (O₀ c) W) by unfold owesS; rw [if_pos (by omega)])) $$ HO
    iapply (body_last (vals m) c (grid0.coords t) ((cond1_last t).mpr ht) (qB m c t) (kB m c t) (vB m c t) X Y
      (partO_all m c _ pX) (partM_all m c _ pY) rfl K _)
    isplitl [H0 H1 H2 Ho Hm Hg Hc Hla HO' Htab Hor Hmr HZ1 HZ2]
    · isplitl [H0]; · iexact H0
      isplitl [H1]; · iexact H1
      isplitl [H2]; · iexact H2
      isplitl [Ho]; · iexact Ho
      isplitl [Hm]; · iexact Hm
      unfold exPre
      isplitl [Hg]; · iexact Hg
      isplitl [Hc]; · iexact Hc
      isplitl [Hla]; · iexact Hla
      isplitl [HO']; · iexact HO'
      isplitl [Htab]; · iexact Htab
      isplitl [Hor]; · iexact Hor
      isplitl [Hmr]; · iexact Hmr
      isplitl [HZ1]; · iexact HZ1
      iexact HZ2
    unfold exPost PhiE
    iintro ⟨H0, H1, H2, Hc1, Hc2, Htab, Ho, Hm, Hor, Hmr, HO, -, Hs0, Hs1, Hs2, Hs3, Hs4, Hs5, Hs6⟩
    isplitl [Htab Ho Hm Hor Hmr Hs0 Hs1 Hs2 Hs3 Hs4 Hs5 Hs6]
    · isplitl [Htab]; · iexact Htab
      isplitl [Ho]; · iexists _; iexact Ho
      isplitl [Hm]; · iexists _; iexact Hm
      isplitl [Hor]; · iexact Hor
      isplitl [Hmr]; · iexact Hmr
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [HO]
    · iapply (Entails.of_eq (show iprop(∃ W, owes (c : Thread nD τ) (0 : CellTallies nD τ sig Unit) W) = owesS (F := F) c (t.val + 1) by unfold owesS; rw [if_neg (by omega)]))
      iexact HO
    isplitl [H0]; · iexact H0
    isplitl [H1]; · iexact H1
    isplitl [H2]; · iexact H2
    iapply (out_join m c)
    isplitl [Hc1]; · iexact Hc1
    iexact Hc2
  rw [e1, e2]
  refine BIBase.Entails.trans (BI.Laws.sep_mono .rfl (BI.Laws.sep_mono .rfl (BI.Laws.sep_mono .rfl (BI.Laws.sep_mono .rfl (BI.Laws.sep_mono .rfl hZ))))) ?_
  refine BIBase.Entails.trans (key _ h5 (stg_out c t)) ?_
  exact wp_mono _ _ _ fun _ => BI.Laws.sep_mono .rfl (BI.Laws.sep_mono .rfl (BI.Laws.sep_mono .rfl (BI.Laws.sep_mono .rfl (BI.Laws.sep_mono .rfl hL))))

theorem body_ob (c : Dev nD) : BodyObligation (dats m 0 c) (defs₀ (F := F)) 𝒱₀ () Set.univ := by
  intro t
  rw [bigSep_W, bigSep_W]
  have hpre : iprop((dats m 0 c).Φ t.castSucc ∗ (dats m 0 c).owesAt () t.castSucc
        ∗ (∃ d, own c (stg (F := F) c 0 t) ((dats m 0 c).before (0 : Fin 4) t d)) ∗ (∃ d, own c (stg (F := F) c 1 t) ((dats m 0 c).before (1 : Fin 4) t d))
        ∗ (∃ d, own c (stg (F := F) c 2 t) ((dats m 0 c).before (2 : Fin 4) t d)) ∗ outZ m c t)
      ⊢ iprop(PhiS m c t.val ∗ owesS (F := F) c t.val ∗ own c (stg (F := F) c 0 t) (qB m c t) ∗ own c (stg (F := F) c 1 t) (kB m c t)
        ∗ own c (stg (F := F) c 2 t) (vB m c t) ∗ outZ m c t) := by
    iintro ⟨HΦ, HO, ⟨%d0, H0⟩, ⟨%d1, H1⟩, ⟨%d2, H2⟩, HZ⟩
    isplitl [HΦ]; · iapply (Entails.of_eq (show (dats m 0 c).Φ t.castSucc = PhiS m c t.val from rfl)) $$ HΦ
    isplitl [HO]; · iapply (owesAt_to m c t.castSucc); iexact HO
    isplitl [H0]; · iapply (Entails.of_eq (by rw [before0 m c t d0])) $$ H0
    isplitl [H1]; · iapply (Entails.of_eq (by rw [before1 m c t d1])) $$ H1
    isplitl [H2]; · iapply (Entails.of_eq (by rw [before2 m c t d2])) $$ H2
    iexact HZ
  have hpost : iprop(PhiS m c (t.val + 1) ∗ owesS (F := F) c (t.val + 1) ∗ own c (stg (F := F) c 0 t) (qB m c t) ∗ own c (stg (F := F) c 1 t) (kB m c t)
            ∗ own c (stg (F := F) c 2 t) (vB m c t) ∗ (dats m 0 c).leavesExact (3 : Fin 4) t)
      ⊢ iprop((dats m 0 c).Φ t.succ ∗ (dats m 0 c).owesAt () t.succ ∗ own c (stg (F := F) c 0 t) (qB m c t) ∗ own c (stg (F := F) c 1 t) (kB m c t)
            ∗ own c (stg (F := F) c 2 t) (vB m c t) ∗ (dats m 0 c).leavesExact (3 : Fin 4) t) := by
    refine BI.Laws.sep_mono ?_ (BI.Laws.sep_mono ?_ .rfl)
    · exact Entails.of_eq (by show PhiS m c (t.val + 1) = PhiS m c t.succ.val; rw [Fin.val_succ])
    · exact BIBase.Entails.trans (Entails.of_eq (by rw [Fin.val_succ])) (owesAt_of m c t.succ)
  have hstep : ∀ {h2 h3 h4 h5}, iprop(PhiS m c t.val ∗ owesS (F := F) c t.val ∗ own c (stg (F := F) c 0 t) (qB m c t) ∗ own c (stg (F := F) c 1 t) (kB m c t)
        ∗ own c (stg (F := F) c 2 t) (vB m c t) ∗ outZ m c t)
      ⊢ wpB c (bodyAt (grid0.coords t) (stg (F := F) c 0 t) h2 (stg (F := F) c 1 t) h3 (stg (F := F) c 2 t) h4 (stg (F := F) c 3 t) h5) fun _ =>
          iprop(PhiS m c (t.val + 1) ∗ owesS (F := F) c (t.val + 1) ∗ own c (stg (F := F) c 0 t) (qB m c t) ∗ own c (stg (F := F) c 1 t) (kB m c t)
            ∗ own c (stg (F := F) c 2 t) (vB m c t) ∗ (dats m 0 c).leavesExact (3 : Fin 4) t) := by
    intro h2 h3 h4 h5
    have hN : t.val < 8 := N_0 ▸ t.isLt
    by_cases ht : t.val = 7
    · exact step_last m c t ht
    · exact step_idle m c t (by omega)
  refine BIBase.Entails.trans hpre ?_
  show _ ⊢ wpB c (bodyAt (grid0.coords t) (stg (F := F) c 0 t) _ (stg (F := F) c 1 t) _ (stg (F := F) c 2 t) _ (stg (F := F) c 3 t) _) fun _ =>
    iprop((dats m 0 c).Φ t.succ ∗ (dats m 0 c).owesAt () t.succ ∗ own c (stg (F := F) c 0 t) (qB m c t) ∗ own c (stg (F := F) c 1 t) (kB m c t)
            ∗ own c (stg (F := F) c 2 t) (vB m c t) ∗ (dats m 0 c).leavesExact (3 : Fin 4) t)
  exact BIBase.Entails.trans hstep (wp_mono _ _ _ fun _ => hpost)

end Cert.DecodeProof
-- ==== Proof.Host.lean ====
/- What the host operations before the kernel leave in the buffers it reads. -/
module

public import proofs.«01_k».proof.Proof.Body
public import Idealize.ShloMosaic.Lib.StableHlo.RunRead
public import Idealize.ShloMosaic.Lib.DynamicIndex

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The buffers at the kernel's entry -/

section Host
variable (c : Dev nD)

theorem word_off (c : Dev nD) (j : S_.Idx) :
    (muli (id (Host.remui (Host.divui (constantI S_ 32 (Dev.word c)) (constantI S_ 32 1#32)) (constantI S_ 32 2#32))) (constantI S_ 32 8#32) : (⟨S_, .i32⟩ : BufTy).Contents (Elt F)) j = bw c := by
  have key : ∀ c : Dev nD, Scalar.muli (Scalar.remui (Scalar.divui (Dev.word c) 1#32) 2#32) 8#32 = bw c := by decide
  exact key c

theorem V1_table : (V1 m c main_v15 : main_v15.ty.Contents (Elt F)) = fun _ => bw c := by
  unfold V1 hostOps0
  after_reads_simp
  funext j
  exact word_off c _

theorem V1_k : (V1 m c main_v6 : main_v6.ty.Contents (Elt F))
    = transpose S16x16x64x1024 [0, 2, 3, 1] (m (c, main_arg1) : main_arg1.ty.Contents (Elt F)) transposes_S16x1024x16x64_S16x16x64x1024_0_2_3_1 := by
  unfold V1 hostOps0
  after_reads_simp

theorem V1_v : (V1 m c main_v7 : main_v7.ty.Contents (Elt F))
    = transpose S16x16x64x1024 [0, 2, 3, 1] (m (c, main_arg2) : main_arg2.ty.Contents (Elt F)) transposes_S16x1024x16x64_S16x16x64x1024_0_2_3_1 := by
  unfold V1 hostOps0
  after_reads_simp

end Host

end Cert.DecodeProof
-- ==== Proof.Region.lean ====
/- The kernel as a step of a device's program: what goes in, and what comes out. -/
module

public import proofs.«01_k».proof.Proof.Host
public import Idealize.ShloMosaic.Lib.Pipeline.RegionArraysT
public import Idealize.ShloMosaic.Lib.Pipeline.Value

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The thread's states around the kernel -/

/-- What the kernel leaves in the host's buffers: its result. -/
def outs : Outs (F := F) := fun _ r c => Function.update (V1 m c) (Proc.devRef .tc main_v16 : DevRef τ sig) (outV m c) (Proc.devRef .tc r)

theorem outs_v16 (c : Dev nD) : outs m 2 main_v16 c = outV m c := by
  unfold outs
  exact Function.update_self _ _ _

/-- The ghost state of a device before the kernel: its copy cells not opened yet. -/
def closed (K : GSem nD τ sig → ℕ) (c : Dev nD) : sProp 𝕄 :=
  iprop(recs (vals m) K ∗ atPos ER (kc c 0) 0 ∅ 0
    ∗ (openTok ER (kc c 1) ∗ openTok ER (kc c 2) ∗ openTok ER (kc c 3) ∗ openTok ER (kc c 4) ∗ openTok ER (kc c 5) ∗ openTok ER (kc c 6)) ∗ toks c)

/-- What rides beside the buffers before the kernel and after it. -/
def EB (c : Dev nD) : sProp 𝕄 := iprop((∃ K, closed m K c) ∗ creds c ∗ ∃ W, owes (c : Thread nD τ) (O₀ c) W)
def EA (c : Dev nD) : sProp 𝕄 := iprop(semVal (kc c 0) 0 ∗ ∃ W, owes (c : Thread nD τ) (0 : CellTallies nD τ sig Unit) W)

theorem osems_eq (c : Dev nD) : (Pipeline.ownSems0 osem c : sProp 𝕄)
    = iprop(semVal (kc c 1) 0 ∗ semVal (kc c 2) 0 ∗ semVal (kc c 3) 0 ∗ semVal (kc c 4) 0 ∗ semVal (kc c 5) 0 ∗ semVal (kc c 6) 0) :=
  bigSep_univ_eq_bigSepL [(0 : Fin 6), 1, 2, 3, 4, 5] (by decide) (by decide) _

theorem open_cell (K : GSem nD τ sig → ℕ) (c : Dev nD) (k : Fin 7) :
    iprop(recs (vals m) K ∗ openTok ER (kc c k) ∗ semVal (kc c k) 0) ⊢ |={Set.univ}=> opened (F := F) c k := by
  iintro ⟨#HR, Ho, Hs⟩
  ihave HI := (recs_inv (vals m) K c k) $$ HR
  iapply (Rounds.cell_open ER (Rd (vals m)) (g := kc c k) (Set.mem_univ (K (kc c k))))
  isplitl [HI]; · iexact HI
  isplitl [Ho] <;> iassumption

theorem opens (c : Dev nD) : iprop((∃ K, closed m K c) ∗ creds c ∗ Pipeline.ownSems0 osem c ∗ levAts L lv) ⊢ |={Set.univ}=> start (vals m) c := by
  rw [osems_eq]
  unfold closed
  iintro ⟨⟨%K, #HR, Ha, ⟨Ho1, Ho2, Ho3, Ho4, Ho5, Ho6⟩, Ht⟩, Hc, ⟨Hs1, Hs2, Hs3, Hs4, Hs5, Hs6⟩, Hl⟩
  imod (open_cell m K c 1) $$ [Ho1 Hs1] with H1
  · isplitr; · iexact HR
    isplitl [Ho1] <;> iassumption
  imod (open_cell m K c 2) $$ [Ho2 Hs2] with H2
  · isplitr; · iexact HR
    isplitl [Ho2] <;> iassumption
  imod (open_cell m K c 3) $$ [Ho3 Hs3] with H3
  · isplitr; · iexact HR
    isplitl [Ho3] <;> iassumption
  imod (open_cell m K c 4) $$ [Ho4 Hs4] with H4
  · isplitr; · iexact HR
    isplitl [Ho4] <;> iassumption
  imod (open_cell m K c 5) $$ [Ho5 Hs5] with H5
  · isplitr; · iexact HR
    isplitl [Ho5] <;> iassumption
  imod (open_cell m K c 6) $$ [Ho6 Hs6] with H6
  · isplitr; · iexact HR
    isplitl [Ho6] <;> iassumption
  imodintro
  unfold start ghost
  isplitl [Ha Ht H1 H2 H3 H4 H5 H6]
  · iexists K
    isplitr; · iexact HR
    isplitl [Ha]; · iexact Ha
    isplitr [Ht]
    · isplitl [H1]; · iexact H1
      isplitl [H2]; · iexact H2
      isplitl [H3]; · iexact H3
      isplitl [H4]; · iexact H4
      isplitl [H5] <;> iassumption
    iexact Ht
  isplitl [Hc] <;> iassumption

/-! ## The arrays -/

theorem arrs_held (c : Dev nD) (G : (w : Fin (cfgA (F := F) c).W) → Buf (Elt F) (((cfgA (F := F) c).spec w).arr.view.loc (c.tc : Thread nD τ)))
    (W : Valuation τ sig (Elt F)) (hG : ∀ w, G w = W (Proc.devRef .tc (Pipeline.arrRef (cfgA (F := F) c).spec w))) :
    ((dats m 0 c).arrays G : sProp 𝕄) = StableHlo.held (c.tc : Thread nD τ) (Pipeline.arrRefs (τ := τ) spec0) W := by
  rw [Pipeline.PerCore.arrays_eq (Pipeline.pinD (pcfgs (F := F)) admP) (dats m) 0 c arr_whole0 (fun w => by unfold Dat.share; split <;> rfl) G]
  unfold StableHlo.held Pipeline.arrRefs
  rw [bigSep_map, show Finset.univ.image (Pipeline.arrRef spec0) = Finset.univ.map ⟨Pipeline.arrRef spec0, winFacts0.arr_inj⟩ from
    (Finset.map_eq_image ⟨Pipeline.arrRef spec0, winFacts0.arr_inj⟩ Finset.univ).symm, bigSep_map]
  exact bigSep_congr fun w _ => by rw [hG]; rfl

theorem arr_first (c : Dev nD) (w : Fin (cfgA (F := F) c).W) : (dats m 0 c).arrAt w 0 = V1 m c (Proc.devRef .tc (Pipeline.arrRef (cfgA (F := F) c).spec w)) := rfl

theorem emb3 (c : Dev nD) (t : Fin grid0.N) (x : S16x16x64.Idx) : ((win0 (F := F) (adm c) 3).blk t).view.emb x = x := by
  funext a
  apply Fin.ext
  fin_cases a
  · show 0 * 16 + 1 * (x 0).val = (x 0).val; omega
  · show 0 * 16 + 1 * (x 1).val = (x 1).val; omega
  · show 0 * 64 + 1 * (x 2).val = (x 2).val; omega

theorem arr_last (c : Dev nD) (w : Fin (cfgA (F := F) c).W) :
    (dats m 0 c).arrAt w (cfgA (F := F) c).N = V2 m (outs m) c (Proc.devRef .tc (Pipeline.arrRef (cfgA (F := F) c).spec w)) := by
  have hne : ∀ r : Ref sig .tc, r ≠ main_v16 → V2 m (outs m) c r = V1 m c r := fun r h => V2_of m (outs m) c r (by simpa using h)
  match w with
  | ⟨0, _⟩ => exact ((dats m 0 c).arrAt_in (0 : Fin 4) rfl _).trans (hne main_v14 (by decide)).symm
  | ⟨1, _⟩ => exact ((dats m 0 c).arrAt_in (1 : Fin 4) rfl _).trans (hne main_v6 (by decide)).symm
  | ⟨2, _⟩ => exact ((dats m 0 c).arrAt_in (2 : Fin 4) rfl _).trans (hne main_v7 (by decide)).symm
  | ⟨3, _⟩ =>
    refine Eq.trans ?_ (show outV m c = V2 m (outs m) c main_v16 from ((Function.update_self (Proc.devRef .tc main_v16 : DevRef τ sig) (outs m 2 main_v16 c) (V1 m c)).trans (outs_v16 m c)).symm)
    refine (dats m 0 c).arrAt_eq_of_cover (3 : Fin 4) (outV m c) ?_ ?_
    · intro t _
      funext x
      exact (congrArg (outV m c) (emb3 c t x)).symm
    · intro i
      refine ⟨t0_7, (flush3 c t0_7).trans rfl, ?_⟩
      have h := ((win0 (F := F) (adm c) 3).blk t0_7).view.emb_mem_set i
      rw [emb3 c t0_7 i] at h
      exact h

theorem tab_held (c : Dev nD) (W : Valuation τ sig (Elt F)) (hW : W main_v15 = V1 m c main_v15) :
    (Pipeline.prefHeld pre0 c (fun _ => fullShare) (tab c) : sProp 𝕄) = StableHlo.held (c.tc : Thread nD τ) (Pipeline.tblRefs pre0) W :=
  Pipeline.prefHeld_held pre0 preFacts0.inj c (tab c) W fun k => match k with
    | ⟨0, _⟩ => (V1_table m c).symm.trans hW.symm

theorem tab_whole (c : Dev nD) (X : S1.Idx → BitVec 32) : own (F := F) c tabM X = (((c : Thread nD τ).loc main_v15) ↦{fullShare} X) := by
  simp only [own, owns_whole]

theorem tab_own (c : Dev nD) : (Pipeline.prefHeld pre0 c (fun _ => fullShare) (tab c) : sProp 𝕄) = own (F := F) c tabM (fun _ => bw c) := by
  unfold Pipeline.prefHeld
  rw [bigSep_univ_eq_bigSepL [(0 : Fin 1)] (by decide) (by decide), tab_whole]
  rfl

/-- The scratch buffers, as the body's invariant has them. -/
theorem scratch (c : Dev nD) : (Pipeline.scopedRest (Ix := Unit) (Name := ℕ) (U := UU) (Lvl := ℕ) (Val := Elt F) spec0 c : sProp 𝕄)
    = iprop((∃ X, own (F := F) c oM X) ∗ (∃ X, own (F := F) c mM X) ∗ (∃ X, own (F := F) c oR X) ∗ (∃ X, own (F := F) c mR X)) := by
  rw [scopedRest0_eq c]
  simp only [own, owns_whole]
  rfl

/-! ## The step -/

theorem stg_lv : ∀ (w : Fin 4) (s : Fin (spec0 w).nbuf), lvk (.dma ((spec0 w).sem s)) = 0 := by decide

theorem owed_above (c : Dev nD) (t : Fin (grid0.N + 1)) : Above 0 ((dats m 0 c).owed t) := by
  show Above 0 (if t.val ≤ 7 then O₀ c else 0)
  split
  · exact above_O₀ c
  · exact above_zero 0

theorem wait_stg (c : Dev nD) (w : Fin 4) (s : Fin (spec0 w).nbuf) (O : CellTallies nD τ sig Unit) (hO : Above 0 O) :
    (levAts L lv : sProp 𝕄) ⊢ MayWait c (.dma ((spec0 w).sem s)) () O :=
  mayWait_of_above c _ O ((stg_lv w s).symm ▸ hO)

theorem waits (c : Dev nD) : (levAts L lv : sProp 𝕄) ⊢ Pipeline.PerCore.cellsWaits (Pipeline.pinD (pcfgs (F := F)) admP) (dats m) () 0 c :=
  Pipeline.PerCore.cellsWaits_intro (Pipeline.pinD (pcfgs (F := F)) admP) (dats m) () 0 c
    fun w s t => wait_stg c w s _ (owed_above m c t)

theorem own_sems : Pipeline.OwnSemFacts spec0 osem := by decide

abbrev uc : Finset (DevRef τ sig) := Pipeline.ucRefs τ sig
abbrev ar : Finset (DevRef τ sig) := Pipeline.arrRefs (τ := τ) spec0
abbrev tb : Finset (DevRef τ sig) := Pipeline.tblRefs (τ := τ) pre0

theorem held3 (c : Dev nD) (W : Valuation τ sig (Elt F)) : (StableHlo.held (c.tc : Thread nD τ) uc W : sProp 𝕄)
    = iprop(StableHlo.held (c.tc : Thread nD τ) ar W ∗ StableHlo.held (c.tc : Thread nD τ) tb W ∗ StableHlo.held (c.tc : Thread nD τ) ((uc \ ar) \ tb) W) := by
  rw [StableHlo.held_sub_split (c.tc : Thread nD τ) (Pipeline.arrRefs_sub_ucRefs spec0 winFacts0.arr_unscoped) W,
    StableHlo.held_sub_split (c.tc : Thread nD τ) (Pipeline.tblRefs_sub_ucRefs_sdiff spec0 pre0 preFacts0.unscoped preFacts0.disj) W]

theorem rest_same (c : Dev nD) : (StableHlo.held (c.tc : Thread nD τ) ((uc \ ar) \ tb) (V2 m (outs m) c) : sProp 𝕄)
    = StableHlo.held (c.tc : Thread nD τ) ((uc \ ar) \ tb) (V1 m c) := by
  unfold StableHlo.held
  refine bigSep_congr fun b hb => ?_
  have hne : b ≠ (Proc.devRef .tc main_v16 : DevRef τ sig) := by
    rintro rfl
    have h : (Proc.devRef .tc main_v16 : DevRef τ sig) ∈ ar :=
      Finset.mem_map_of_mem ⟨Proc.devRef (sig := sig) .tc, Proc.devRef_injective _⟩ (Finset.mem_image.mpr ⟨(3 : Fin 4), Finset.mem_univ _, rfl⟩)
    exact (Finset.mem_sdiff.mp (Finset.mem_sdiff.mp hb).1).2 h
  rw [show V2 m (outs m) c b = V1 m c b from Function.update_of_ne hne _ _]

set_option backward.isDefEq.respectTransparency.types false in
def reg : Pipeline.PerCore.RegionSeg (pcfgs (F := F)) admP (dats m) () defs₀ 𝒱₀ L lv 0 where
  win := winFacts0.to₀
  block_pos := block_pos0
  stage_whole := stage_whole0
  K := Fin 6
  osem := osem
  ho := own_sems
  hbody c := (body_ob m c).loose
  hwaits := waits m
  pre c := iprop(StableHlo.held (c : Thread nD τ) uc (V1 m c) ∗ EB m c)
  post c := iprop(StableHlo.held (c : Thread nD τ) uc (V2 m (outs m) c) ∗ EA (F := F) c)
  X c := start (vals m) c
  Y c := iprop(Pipeline.prefHeld pre0 c (fun _ => fullShare) (tab c) ∗ semVal (kc c 0) 0)
  Z c := StableHlo.held (c : Thread nD τ) ((uc \ ar) \ tb) (V1 m c)
  hentry c := by
    rw [held3]
    unfold EB
    iintro ⟨⟨⟨Ha, Ht, Hr⟩, HK, Hc, HO⟩, Hs, Hl⟩
    imod (opens m c) $$ [HK Hc Hs Hl] with HX
    · isplitl [HK]; · iexact HK
      isplitl [Hc]; · iexact Hc
      isplitl [Hs] <;> iassumption
    imodintro
    isplitl [Ha]; · iapply (Entails.of_eq (arrs_held m c ((dats m 0 c).arrAt · 0) (V1 m c) (arr_first m c)).symm) $$ Ha
    isplitl [Ht]; · iapply (Entails.of_eq (tab_held m c (V1 m c) rfl).symm) $$ Ht
    isplitl [HO]
    · iapply (owesAt_of m c 0)
      iapply (Entails.of_eq (show iprop(∃ W, owes (c : Thread nD τ) (O₀ c) W) = owesS (F := F) c 0 from rfl)); iexact HO
    isplitl [HX] <;> iassumption
  hin c := by
    show iprop(start (vals m) c ∗ Pipeline.prefHeld pre0 c (fun _ => fullShare) (tab c) ∗ Pipeline.scopedRest spec0 c) ⊢ PhiR m c 0
    rw [tab_own, scratch]
    unfold PhiR
    iintro ⟨HX, Ht, ⟨%X, H0⟩, ⟨%Y, H1⟩, H2, H3⟩
    isplitl [HX]; · iexact HX
    isplitl [Ht]; · iexact Ht
    isplitl [H0]
    · iexists X; isplitr
      · ipureintro; exact fun j hj => absurd hj (Nat.not_lt_zero _)
      iexact H0
    isplitl [H1]
    · iexists Y; isplitr
      · ipureintro; exact fun j hj => absurd hj (Nat.not_lt_zero _)
      iexact H1
    isplitl [H2] <;> iassumption
  hout c := by
    show PhiE (F := F) c ⊢ iprop((Pipeline.prefHeld pre0 c (fun _ => fullShare) (tab c) ∗ semVal (kc c 0) 0) ∗ Pipeline.ownSems0 osem c ∗ Pipeline.scopedRest spec0 c)
    rw [tab_own, scratch, osems_eq]
    unfold PhiE
    iintro ⟨Ht, H0, H1, H2, H3, Hs0, Hs⟩
    isplitl [Ht Hs0]
    · isplitl [Ht] <;> iassumption
    isplitl [Hs]; · iexact Hs
    isplitl [H0]; · iexact H0
    isplitl [H1]; · iexact H1
    isplitl [H2] <;> iassumption
  hexit c := by
    rw [held3, rest_same]
    unfold EA
    iintro ⟨Ha, HO, ⟨Ht, Hs⟩, Hr⟩
    imodintro
    isplitl [Ha Ht Hr]
    · isplitl [Ha]; · iapply (Entails.of_eq (arrs_held m c ((dats m 0 c).arrAt · _) (V2 m (outs m) c) (arr_last m c))) $$ Ha
      isplitl [Ht]; · iapply (Entails.of_eq (tab_held m c (V2 m (outs m) c) (V2_of m (outs m) c main_v15 (by decide)))) $$ Ht
      iexact Hr
    isplitl [Hs]; · iexact Hs
    iapply (Entails.of_eq (show owesS (F := F) c 8 = iprop(∃ W, owes (c : Thread nD τ) (0 : CellTallies nD τ sig Unit) W) from rfl))
    iapply (owesAt_to m c (Fin.last _)); iexact HO

end Cert.DecodeProof
-- ==== Proof.Launch.lean ====
/- The launch: every cell's invariant, and what every device starts with. -/
module

public import proofs.«01_k».proof.Proof.Region
public import Idealize.ShloMosaic.Lib.Quiescent

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's cells and tokens -/

def barEmb : Dev nD ↪ GSem nD τ sig := ⟨fun c => kc c 0, fun _ _ h => congrArg (fun g : GSem nD τ sig => g.1.1) h⟩
def scEmb : Dev nD × Fin 6 ↪ GSem nD τ sig :=
  ⟨fun ck => kc ck.1 ck.2.succ, fun _ _ h =>
    Prod.ext (congrArg (fun g : GSem nD τ sig => g.1.1) h) (Fin.succ_injective _ (ksem_inj (congrArg Prod.snd h)))⟩

abbrev barCells : Finset (GSem nD τ sig) := Finset.univ.map barEmb
abbrev scCells : Finset (GSem nD τ sig) := Finset.univ.map scEmb

/-- The duties of a device's own cells: two at the barrier, one at every copy cell. -/
abbrev tk : Fin 8 → Fin 7 × Bool := fun
  | 0 => (0, false) | 1 => (0, true) | 2 => (1, false) | 3 => (2, false) | 4 => (3, false) | 5 => (4, false) | 6 => (5, false) | 7 => (6, false)
theorem tk_inj : Function.Injective tk := by decide
def tokSet : Finset (GSem nD τ sig × ℕ × Bool) :=
  Finset.univ.map ⟨fun ck : Dev nD × Fin 8 => (kc ck.1 (tk ck.2).1, 0, (tk ck.2).2), fun _ _ h =>
    Prod.ext (congrArg (fun t : GSem nD τ sig × ℕ × Bool => t.1.1.1) h)
      (tk_inj (Prod.ext (ksem_inj (congrArg (fun t : GSem nD τ sig × ℕ × Bool => t.1.2) h)) (congrArg (fun t : GSem nD τ sig × ℕ × Bool => t.2.2) h)))⟩

theorem cells_disjoint : Disjoint (barCells : Finset (GSem nD τ sig)) scCells := by
  rw [Finset.disjoint_left]
  intro g h h'
  obtain ⟨c, -, rfl⟩ := Finset.mem_map.mp h
  obtain ⟨ck, -, e⟩ := Finset.mem_map.mp h'
  exact Fin.succ_ne_zero ck.2 (ksem_inj (congrArg Prod.snd e))

theorem cell_mem (c : Dev nD) (k : Fin 7) : kc c k ∈ (barCells ∪ scCells : Finset (GSem nD τ sig)) := by
  by_cases h : k = 0
  · subst h; exact Finset.mem_union_left _ (Finset.mem_map_of_mem barEmb (Finset.mem_univ c))
  · obtain ⟨j, rfl⟩ := Fin.exists_succ_eq.mpr h
    exact Finset.mem_union_right _ (Finset.mem_map_of_mem scEmb (Finset.mem_univ (c, j)))

theorem ph_inj : Function.Injective (Pipeline.PerCore.cellOf (nD := nD) (τ := τ) (Pipeline.pinD (pcfgs (F := F)) admP)) :=
  Pipeline.PerCore.cellOf_injective (Pipeline.pinD (pcfgs (F := F)) admP)
    (fun c p => match p with
      | ⟨0, _⟩ => Pipeline.specSemsDistinct_of_nodup spec0 (semsDistinct 0)) (fun c p p' h => absurd (Subsingleton.elim p p') h)

/-- The launch's element: the pipeline's, and the exchange's. -/
def u₀ : UU :=
  (initOf (Pipeline.PerCore.cells (Pipeline.pinD (pcfgs (F := F)) admP) ph_inj) (Pipeline.PerCore.launchToks (Pipeline.pinD (pcfgs (F := F)) admP) ph_inj),
    launchOf barCells scCells tokSet)

/-- A resource given to one device. -/
def lone (X : sProp 𝕄) (c : Dev nD) : sProp 𝕄 := if c = 0 then X else iprop(emp)
theorem lone_all (X : sProp 𝕄) : bigSep Finset.univ (lone X) = X := by
  rw [bigSep_univ_at _ (0 : Dev nD), bigSep_congr (s := Finset.univ.erase (0 : Dev nD)) (Ψ := fun _ => (BI.emp : sProp 𝕄))
      fun c hc => by unfold lone; rw [if_neg (Finset.ne_of_mem_erase hc)]; rfl, BI.bigSep_emp_const]
  unfold lone; rw [if_pos rfl]
  exact BI.equiv_iff.mp BI.sep_emp

def G : Dev nD → sProp 𝕄 := lone (BI.own (ER (launchOf barCells scCells tokSet)))

/-! ## What every device gets -/

theorem recs_of (κ : GSem nD τ sig → ℕ) :
    iprop((bigSep (barCells ∪ scCells) fun g => (cellInv ER (Rd (vals m)) (κ g) g : sProp 𝕄)) ∗ bigSep barCells fun g => (reached ER g 0 : sProp 𝕄)) ⊢ recs (vals m) κ := by
  unfold recs
  refine BI.Laws.sep_mono ?_ (Entails.of_eq (bigSep_map (s := Finset.univ) barEmb (Φ := fun g : GSem nD τ sig => (reached ER g 0 : sProp 𝕄))))
  exact BI.bigSep_intro_persistent fun p _ => bigSep_elim (Φ := fun g => (cellInv ER (Rd (vals m)) (κ g) g : sProp 𝕄)) (cell_mem p.1 p.2)

def ownToks (c : Dev nD) : sProp 𝕄 :=
  iprop(dutyTok ER (kc c 0) 0 false ∗ dutyTok ER (kc c 0) 0 true ∗ dutyTok ER (kc c 1) 0 false ∗ dutyTok ER (kc c 2) 0 false ∗ dutyTok ER (kc c 3) 0 false
    ∗ dutyTok ER (kc c 4) 0 false ∗ dutyTok ER (kc c 5) 0 false ∗ dutyTok ER (kc c 6) 0 false)

theorem toks_all : bigSep tokSet (fun x => (dutyTok ER x.1 x.2.1 x.2.2 : sProp 𝕄)) = bigSep Finset.univ fun c : Dev nD => ownToks (F := F) c := by
  unfold tokSet; rw [bigSep_map, bigSep_univ_prod]
  exact bigSep_congr fun c _ => bigSep_univ_eq_bigSepL [(0 : Fin 8), 1, 2, 3, 4, 5, 6, 7] (by decide) (by decide) _

/-- Every token to the device that pays the duty. -/
theorem toks_dealt : (bigSep Finset.univ fun c : Dev nD => (ownToks c : sProp 𝕄)) ⊢ bigSep Finset.univ fun c : Dev nD => (toks c : sProp 𝕄) := by
  unfold ownToks toks
  simp only [bigSep_sep']
  rw [bigSep_univ_equiv swapX (fun c : Dev nD => (dutyTok ER (kc c 0) 0 false : sProp 𝕄)),
    bigSep_univ_equiv swapY (fun c : Dev nD => (dutyTok ER (kc c 0) 0 true : sProp 𝕄)),
    bigSep_univ_equiv swapX (fun c : Dev nD => (dutyTok ER (kc c 4) 0 false : sProp 𝕄)),
    bigSep_univ_equiv swapX (fun c : Dev nD => (dutyTok ER (kc c 5) 0 false : sProp 𝕄)),
    bigSep_univ_equiv swapY (fun c : Dev nD => (dutyTok ER (kc c 6) 0 false : sProp 𝕄))]
  exact BI.Entails.refl _

theorem opens_all : bigSep scCells (fun g => (openTok ER g : sProp 𝕄))
    = bigSep Finset.univ fun c : Dev nD => (iprop(openTok ER (kc c 1) ∗ openTok ER (kc c 2) ∗ openTok ER (kc c 3) ∗ openTok ER (kc c 4) ∗ openTok ER (kc c 5) ∗ openTok ER (kc c 6)) : sProp 𝕄) := by
  rw [bigSep_map, bigSep_univ_prod]
  exact bigSep_congr fun c _ => bigSep_univ_eq_bigSepL [(0 : Fin 6), 1, 2, 3, 4, 5] (by decide) (by decide) _

/-! ## The credits -/

theorem at_cell (d c : Dev nD) (k k' : Fin 7) (n : ℕ) : (tallyAt (kc d k) () n : CellTallies nD τ sig Unit) (kc c k') () = if d = c ∧ k = k' then n else 0 := by
  rw [tallyAt_apply]
  by_cases h : d = c ∧ k = k'
  · rw [if_pos h, if_pos ⟨by rw [h.1, h.2], rfl⟩]
  · rw [if_neg h, if_neg]
    rintro ⟨e, -⟩
    exact h ⟨(congrArg (fun g : GSem nD τ sig => g.1.1) e).symm, (ksem_inj (congrArg Prod.snd e)).symm⟩

theorem owed_at (d c : Dev nD) (k : Fin 7) : O₀ d (kc c k) ()
    = (if py d = c ∧ 6 = k then N0 else 0) + (if px d = c ∧ 5 = k then N1 else 0) + (if px d = c ∧ 4 = k then N0 else 0)
      + (if py d = c ∧ 0 = k then 1 else 0) + (if px d = c ∧ 0 = k then 1 else 0) := by
  rw [← at_cell (py d) c 6 k N0, ← at_cell (px d) c 5 k N1, ← at_cell (px d) c 4 k N0, ← at_cell (py d) c 0 k 1, ← at_cell (px d) c 0 k 1]
  rfl

theorem px_iff (d c : Dev nD) : px d = c ↔ d = px c := ⟨fun h => by rw [← h, px_px], fun h => by rw [h, px_px]⟩
theorem py_iff (d c : Dev nD) : py d = c ↔ d = py c := ⟨fun h => by rw [← h, py_py], fun h => by rw [h, py_py]⟩

theorem launch_at (c : Dev nD) (k : Fin 7) (n : ℕ) (h : ∑ d, O₀ d (kc c k) () = n) :
    tallyOn (kc c k) (launchCredit (Pipeline.owing O₀) 0 (kc c k)) = (tallyAt (kc c k) () n : CellTallies nD τ sig Unit) := by
  unfold tallyAt; refine congrArg _ (Finsupp.ext fun u => ?_); cases u
  rw [Pipeline.launchCredit_owing, Finsupp.single_eq_same, h]

theorem sum_at (c : Dev nD) (k : Fin 7) : ∑ d, O₀ d (kc c k) ()
    = (if 6 = k then N0 else 0) + (if 5 = k then N1 else 0) + (if 4 = k then N0 else 0) + (if 0 = k then 1 else 0) + (if 0 = k then 1 else 0) := by
  simp only [owed_at, Finset.sum_add_distrib, px_iff, py_iff, ite_and, Finset.sum_ite_eq', Finset.mem_univ, if_true]

theorem creds_of (c : Dev nD) : (Pipeline.launchCred O₀ c : sProp 𝕄) ⊢ creds c := by
  unfold Pipeline.launchCred creds
  rw [← launch_at c 0 2 (by rw [sum_at]; rfl), ← launch_at c 4 N0 (by rw [sum_at]; rfl), ← launch_at c 5 N1 (by rw [sum_at]; rfl), ← launch_at c 6 N0 (by rw [sum_at]; rfl)]
  refine BIBase.Entails.trans (bigSep_subset (t := ({0, 4, 5, 6} : Finset (Fin 7)).map ⟨ksem, ksem_inj⟩) (Finset.subset_univ _)) ?_
  rw [bigSep_map, bigSep_eq_bigSepL_of_eq [(0 : Fin 7), 4, 5, 6] (by decide) (by decide)]
  exact .rfl

/-! ## The run -/

/-- What of a device's launch is not the exchange's ghost state. -/
def other (c : Dev nD) : sProp 𝕄 :=
  iprop(StableHlo.held (c : Thread nD τ) uc (V0 m c) ∗ creds c ∗ owes (c : Thread nD τ) (O₀ c) ∅)
/-- What of the ghost state stays with a device. -/
def mine (c : Dev nD) : sProp 𝕄 :=
  iprop(atPos ER (kc c 0) 0 ∅ 0
    ∗ (openTok ER (kc c 1) ∗ openTok ER (kc c 2) ∗ openTok ER (kc c 3) ∗ openTok ER (kc c 4) ∗ openTok ER (kc c 5) ∗ openTok ER (kc c 6)) ∗ toks c)

abbrev TB (c : Dev nD) : sProp 𝕄 := iprop(StableHlo.held (c : Thread nD τ) uc (V0 m c) ∗ EB m c)
abbrev TA (c : Dev nD) : sProp 𝕄 := iprop(StableHlo.held (c : Thread nD τ) uc (V3 m (outs m) c) ∗ semVal (kc c 0) 0)

theorem first (K : GSem nD τ sig → ℕ) (c : Dev nD) : iprop(recs (vals m) K ∗ (mine c ∗ other m c)) ⊢ TB m c := by
  unfold mine other TB EB closed
  iintro ⟨#HR, ⟨Ha, Ho, Ht⟩, Hh, Hc, HO⟩
  isplitl [Hh]; · iexact Hh
  isplitl [Ha Ho Ht]
  · iexists K
    isplitr; · iexact HR
    isplitl [Ha]; · iexact Ha
    isplitl [Ho] <;> iassumption
  isplitl [Hc]; · iexact Hc
  iexists ∅; iexact HO

theorem unscoped_only : ∀ sm : SemLoc sig, sm.isScoped .tc = false → sm = ksem 0 := by decide

theorem unscoped_sems (c : Dev nD) : (unscopedSems0 c : sProp 𝕄) = semVal (kc c 0) 0 := by
  unfold unscopedSems0
  rw [show (Finset.univ.filter fun sm : SemLoc sig => ¬ sm.isScoped .tc) = {ksem 0} from by decide, bigSep_singleton]

theorem begin :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (TB m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(other m c ∗ (semVal (kc c 0) 0 ∗ G c)) : sProp 𝕄) := by
    rw [unscoped_sems, show unscopedBufs c (fun b => m ((c.tc : Thread nD τ).loc b)) = StableHlo.held (c : Thread nD τ) uc (V0 m c) from Pipeline.unscopedBufs_held c (V0 m c)]
    unfold other
    iintro ⟨Hh, Hus, HO, Hcr, -, HG⟩
    ihave Hc := (creds_of (F := F) c) $$ Hcr
    isplitl [Hh Hc HO]
    · isplitl [Hh]; · iexact Hh
      isplitl [Hc] <;> iassumption
    isplitl [Hus] <;> iassumption
  have hv : bigSep Finset.univ (fun c : Dev nD => (semVal (kc c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (kc c 0) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(other m c ∗ (semVal (kc c 0) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (show bigSep Finset.univ (G (F := F)) = BI.own (ER (launchOf barCells scCells tokSet)) from lone_all _)) $$ HG
  imod (Rounds.fund_launch ER (Rd (vals m)) cells_disjoint (fun g _ h => h) tokSet) $$ [Hv Hu] with ⟨%K, -, #HI, #HR, Ha, Ho, Ht⟩
  · isplitl [Hv]
    · iapply hv $$ Hv
    · iexact Hu
  imodintro
  iapply (bigSep_with_persistent (R := recs (vals m) K) (Φ := fun c => iprop(mine c ∗ other m c)) fun c _ => first m K c)
  isplitr
  · iapply (recs_of m K)
    isplitr; · iexact HI
    iexact HR
  rw [bigSep_sep']
  isplitr [HB]
  · unfold mine
    rw [bigSep_sep', bigSep_sep']; isplitl [Ha]; · iapply hat $$ Ha
    isplitl [Ho]; · iapply (Entails.of_eq (opens_all (F := F))) $$ Ho
    iapply (toks_dealt (F := F))
    iapply (Entails.of_eq (toks_all (F := F))) $$ Ht
  · iexact HB

abbrev segs (c : Dev nD) : List (Pipeline.PerCore.Seg (pcfgs (F := F)) admP (dats m) () defs₀ 𝒱₀ L lv) :=
  [.host (seg0 m 𝒱₀ L lv (fun j => match j with | 0 => EB m | 1 => EA) c), .region (reg m),
   .host (seg2 m (outs m) 𝒱₀ L lv (fun j => match j with | 0 => EB m | 1 => EA))]

/-- The result on a device, as the program hands it back. -/
def resV (c : Dev nD) : Vec F S16x1x16x64 .f32 := shapeCast S16x1x16x64 (outV m c) shapeCasts_S16x16x64_S16x1x16x64

theorem V3_res (c : Dev nD) : (V3 m (outs m) c main_v17 : main_v17.ty.Contents (Elt F)) = resV m c := by
  unfold V3 hostOps1
  after_reads_simp
  have h : (V2 m (outs m) c main_v16 : main_v16.ty.Contents (Elt F)) = outV m c :=
    (Function.update_self (Proc.devRef .tc main_v16 : DevRef τ sig) (outs m 2 main_v16 c) (V1 m c)).trans (outs_v16 m c)
  rw [h]
  rfl

set_option backward.isDefEq.respectTransparency.types false in
/-- The run: on every device the arguments stay as they were and the result is the one named, and every semaphore ends at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v17) = resV m c) ∧ r.2.sem = fun _ => 0) := by
  refine Pipeline.PerCore.θ_run_regions_kit_sems (pcfgs (F := F)) admP (dats m) () ph_inj EP defs₀ 𝒱₀ L lv m ρ main (segs m)
    (fun c Q => by
      rewrite [main_chain c, Pipeline.PerCore.Seg.run_eq_chain,
        show (segs m c).map Pipeline.PerCore.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.PerCore.Seg.pipes_host, Pipeline.PerCore.Seg.pipes_region, Pipeline.PerCore.Seg.pipes_nil]; decide)
    (O₀ := O₀) (hL := L_of_ne) (G := G) (u₀ := u₀ (F := F)) (hu₀ := ?_)
    (T₀ := TB m) (Tₙ := TA m) (hch := fun c => ⟨.rfl, .rfl, .rfl, ?_⟩) (hinit := begin m ρ)
    (QY := fun c s => (∀ b ∈ Pipeline.ucRefs τ sig, s.mem ((c : Thread nD τ).1, b) = V3 m (outs m) c b) ∧ s.sem (kc c 0) = 0)
    (hfin := fun c s' => ?_) (hQ := fun s h hs => ?_)
  · unfold u₀ G
    iintro Hu
    ihave H := (ownU_pair _ _) $$ Hu
    icases H with ⟨HP, HX⟩
    imodintro
    isplitl [HP]; · iexact HP
    rw [lone_all]; iexact HX
  · show iprop(StableHlo.held (c : Thread nD τ) uc (V3 m (outs m) c) ∗ EA (F := F) c) ⊢ iprop(TA m c ∗ ∃ W, owes (c : Thread nD τ) (0 : CellTallies nD τ sig Unit) W)
    unfold EA TA
    iintro ⟨Hh, Hb, HO⟩
    isplitr [HO]
    · isplitl [Hh] <;> iassumption
    · iexact HO
  · dsimp only [TA]
    unfold StableHlo.held
    iintro ⟨⟨Hh, Hb⟩, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    icombine HSI Hb gives %hb
    imodintro
    isplitr
    · ipureintro
      exact ⟨h, by simpa using hb⟩
    iexact HSI
  · have hread : ∀ (c : Dev nD) (r : Ref sig .tc), r.isScoped = false → s.mem ((c.tc : Thread nD τ).loc r) = V3 m (outs m) c r := fun c r hr =>
      (h c).1 (Proc.devRef .tc r) (Finset.mem_filter.mpr ⟨StableHlo.devRef_mem_tcRefs r, fun e => Bool.false_ne_true (hr.symm.trans e)⟩)
    refine ⟨fun c => ⟨(hread c main_arg0 rfl).trans (V3_main_arg0 m (outs m) c), (hread c main_arg1 rfl).trans (V3_main_arg1 m (outs m) c),
      (hread c main_arg2 rfl).trans (V3_main_arg2 m (outs m) c), (hread c main_v17 rfl).trans (V3_res m c)⟩, ?_⟩
    exact sem_eq_zero hs fun c sm hsm => by
      obtain rfl := unscoped_only sm hsm
      exact (h c).2

end Cert.DecodeProof
-- ==== Proof.Reads.lean ====
/- What the grid steps read, at an index. -/
module

public import proofs.«01_k».proof.Proof.Launch
public import Idealize.ShloMosaic.Lib.DynamicIndex
public import Idealize.ShloMosaic.Lib.Pointwise

@[expose] public section

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The queries -/

section Reads
variable (c : Dev nD)

/-- The scaled queries: of them the kernel reads its half of the batch. -/
def qs (c : Dev nD) : Vec F S16x16x64 .f32 :=
  mulf (shapeCast S16x16x64 (m (c, main_arg0) : main_arg0.ty.Contents (Elt F)) shapeCasts_S16x1x16x64_S16x16x64)
    (broadcastInDim S16x16x64 ![] bcast_S_S16x16x64 (constant S_ .f32 0x3E000000#32))

theorem slices_q (c : Dev nD) : S16x16x64.Slices ![8 * (c.val % 2), 0, 0] S8x16x64 := by revert c; decide

theorem V1_q : (V1 m c main_v14 : main_v14.ty.Contents (Elt F)) = extractStridedSlice S8x16x64 ![8 * (c.val % 2), 0, 0] (qs m c) (slices_q c) := by
  unfold V1 hostOps0
  after_reads_simp
  have key : ∀ c : Dev nD, (if (Scalar.cmpi .slt (Scalar.muli (Scalar.remui (Scalar.divui (Dev.word c) 1#32) 2#32) 8#32) 0#32) = 1#1
      then Scalar.addi (Scalar.muli (Scalar.remui (Scalar.divui (Dev.word c) 1#32) 2#32) 8#32) 16#32
      else Scalar.muli (Scalar.remui (Scalar.divui (Dev.word c) 1#32) 2#32) 8#32).toInt = (8 * (c.val % 2) : ℕ) := by decide
  refine Host.dynamicSlice_eq_extractStridedSlice S8x16x64 (qs m c) _ ![8 * (c.val % 2), 0, 0] _ (slices_q c) ?_
  intro a
  have hh : ∀ a : Fin 3, a = 0 ∨ a = 1 ∨ a = 2 := by decide
  rcases hh a with rfl | rfl | rfl
  · dsimp only [Matrix.cons_val_zero]
    after_reads_simp
    exact key c
  · dsimp only [Matrix.cons_val_one, Matrix.cons_val_zero]
    after_reads_simp
    rfl
  · dsimp only [Matrix.cons_val]
    after_reads_simp
    rfl

/-! ## The blocks of a grid step, at an index -/

theorem qB_at (n : Fin 8) (h : Fin 16) (d : Fin 64) : qB m c (pt n) (ix3 0 h d) = (V1 m c main_v14 : S8x16x64.Idx → Elt F .f32) (ix3 n h d) := by
  unfold qB
  refine congrArg (V1 m c main_v14 : S8x16x64.Idx → Elt F .f32) ?_
  funext a
  apply Fin.ext
  have hn := coord0 (pt n)
  have key : ∀ n : Fin 8, (BitVec.ofNat 32 n.val).toNat = n.val := by decide
  fin_cases a
  · show (BitVec.ofNat 32 (grid0.coords (pt n) 0).val).toNat * 1 + 1 * 0 = n.val
    rw [hn]; show (BitVec.ofNat 32 n.val).toNat * 1 + 1 * 0 = n.val
    rw [key]; omega
  · show 0 * 16 + 1 * h.val = h.val; omega
  · show 0 * 64 + 1 * d.val = d.val; omega

/-- The row of the batch a device's grid step takes. -/
def brow (n : Fin 8) : Fin 16 := ⟨n.val + 8 * (c.val % 2), by omega⟩

theorem kB_at (n : Fin 8) (h : Fin 16) (d : Fin 64) (k : Fin 1024) :
    kB m c (pt n) (ix4 0 h d k) = (V1 m c main_v6 : S16x16x64x1024.Idx → Elt F .f32) (ix4 (brow c n) h d k) := by
  unfold kB
  refine congrArg (V1 m c main_v6 : S16x16x64x1024.Idx → Elt F .f32) ?_
  funext a
  apply Fin.ext
  have hn := coord0 (pt n)
  have ht := tr1_eq (F := F) c (grid0.coords (pt n))
  fin_cases a
  · show (cc0_transform_1 (F := F) inb_S1_S1_0 numel1_S1 (tab c) (grid0.coords (pt n)) 0) * 1 + 1 * 0 = n.val + 8 * (c.val % 2)
    rw [ht]
    show ((grid0.coords (pt n) 0).val + 8 * (c.val % 2)) * 1 + 1 * 0 = _
    rw [hn]; show (n.val + 8 * (c.val % 2)) * 1 + 1 * 0 = _; omega
  · show (cc0_transform_1 (F := F) inb_S1_S1_0 numel1_S1 (tab c) (grid0.coords (pt n)) 1) * 16 + 1 * h.val = h.val
    rw [ht]; show 0 * 16 + 1 * h.val = h.val; omega
  · show (cc0_transform_1 (F := F) inb_S1_S1_0 numel1_S1 (tab c) (grid0.coords (pt n)) 2) * 64 + 1 * d.val = d.val
    rw [ht]; show 0 * 64 + 1 * d.val = d.val; omega
  · show (cc0_transform_1 (F := F) inb_S1_S1_0 numel1_S1 (tab c) (grid0.coords (pt n)) 3) * 1024 + 1 * k.val = k.val
    rw [ht]; show 0 * 1024 + 1 * k.val = k.val; omega

theorem vB_at (n : Fin 8) (h : Fin 16) (d : Fin 64) (k : Fin 1024) :
    vB m c (pt n) (ix4 0 h d k) = (V1 m c main_v7 : S16x16x64x1024.Idx → Elt F .f32) (ix4 (brow c n) h d k) := by
  unfold vB
  refine congrArg (V1 m c main_v7 : S16x16x64x1024.Idx → Elt F .f32) ?_
  funext a
  apply Fin.ext
  have hn := coord0 (pt n)
  have ht := tr1_eq (F := F) c (grid0.coords (pt n))
  fin_cases a
  · show (cc0_transform_1 (F := F) inb_S1_S1_0 numel1_S1 (tab c) (grid0.coords (pt n)) 0) * 1 + 1 * 0 = n.val + 8 * (c.val % 2)
    rw [ht]
    show ((grid0.coords (pt n) 0).val + 8 * (c.val % 2)) * 1 + 1 * 0 = _
    rw [hn]; show (n.val + 8 * (c.val % 2)) * 1 + 1 * 0 = _; omega
  · show (cc0_transform_1 (F := F) inb_S1_S1_0 numel1_S1 (tab c) (grid0.coords (pt n)) 1) * 16 + 1 * h.val = h.val
    rw [ht]; show 0 * 16 + 1 * h.val = h.val; omega
  · show (cc0_transform_1 (F := F) inb_S1_S1_0 numel1_S1 (tab c) (grid0.coords (pt n)) 2) * 64 + 1 * d.val = d.val
    rw [ht]; show 0 * 64 + 1 * d.val = d.val; omega
  · show (cc0_transform_1 (F := F) inb_S1_S1_0 numel1_S1 (tab c) (grid0.coords (pt n)) 3) * 1024 + 1 * k.val = k.val
    rw [ht]; show 0 * 1024 + 1 * k.val = k.val; omega

end Reads

end Cert.DecodeProof
-- ==== Proof.Softmax.lean ====
/- The mathematics: a softmax whose row is cut in two halves, combined. -/
module

public import proofs.«01_k».proof.Proof.Reads
public import Idealize.ShloMosaic.PureOps.Ideal
public import Mathlib.Data.EReal.Operations

@[expose] public section

noncomputable section

namespace Cert.DecodeProof

open Idealize.ShloMosaic

/-- The largest of finitely many values, from minus infinity. -/
def top {n : ℕ} (f : Fin n → EReal) : EReal := Finset.univ.fold max ⊥ f

theorem top_real {n : ℕ} (hn : 0 < n) (f : Fin n → EReal) (hf : ∀ k, ∃ r : ℝ, f k = r) : ∃ r : ℝ, top f = r := by
  haveI : Nonempty (Fin n) := ⟨⟨0, hn⟩⟩
  obtain ⟨i, _, hi⟩ := Finset.exists_mem_eq_sup Finset.univ Finset.univ_nonempty f
  obtain ⟨r, hr⟩ := hf i
  exact ⟨r, (show top f = Finset.univ.sup f from rfl).trans (hi.trans hr)⟩

theorem top_split {n : ℕ} (f : Fin (n + n) → EReal) : top f = max (top fun k : Fin n => f (k.castAdd n)) (top fun k : Fin n => f (k.natAdd n)) := by
  show Finset.univ.sup f = (Finset.univ.sup fun k : Fin n => f (k.castAdd n)) ⊔ (Finset.univ.sup fun k : Fin n => f (k.natAdd n))
  refine le_antisymm (Finset.sup_le fun k _ => ?_) (sup_le (Finset.sup_le fun k _ => Finset.le_sup (Finset.mem_univ _)) (Finset.sup_le fun k _ => Finset.le_sup (Finset.mem_univ _)))
  induction k using Fin.addCases with
  | left k => exact le_sup_of_le_left (Finset.le_sup (f := fun k : Fin n => f (k.castAdd n)) (Finset.mem_univ k))
  | right k => exact le_sup_of_le_right (Finset.le_sup (f := fun k : Fin n => f (k.natAdd n)) (Finset.mem_univ k))

/-- A nonnegative real factor goes under a sum of any values. -/
theorem sum_mul_real {ι : Type} (s : Finset ι) (f : ι → EReal) {a : ℝ} (ha : 0 ≤ a) : (∑ k ∈ s, f k) * (a : EReal) = ∑ k ∈ s, f k * (a : EReal) := by
  classical
  induction s using Finset.induction_on with
  | empty => simp
  | insert i s hi ih =>
    rw [Finset.sum_insert hi, Finset.sum_insert hi, EReal.right_distrib_of_nonneg_of_ne_top (by exact_mod_cast ha) (EReal.coe_ne_top a), ih]

theorem sum_real {ι : Type} (s : Finset ι) (r : ι → ℝ) : (∑ k ∈ s, (r k : EReal)) = ((∑ k ∈ s, r k : ℝ) : EReal) := by
  classical
  induction s using Finset.induction_on with
  | empty => simp
  | insert i s hi ih => rw [Finset.sum_insert hi, Finset.sum_insert hi, ih, EReal.coe_add]

/-- A half's weights and its weighted sum, against its own maximum. -/
def den {n : ℕ} (f : Fin n → EReal) : EReal := ∑ k, Ideal.exp (f k - top f)
def num {n : ℕ} (f u : Fin n → EReal) : EReal := ∑ k, u k * Ideal.exp (f k - top f)

/-- Two halves combined. -/
def two {n : ℕ} (f u g w : Fin n → EReal) : EReal :=
  Ideal.div (num f u * Ideal.exp (top f - max (top f) (top g)) + num g w * Ideal.exp (top g - max (top f) (top g)))
    (den f * Ideal.exp (top f - max (top f) (top g)) + den g * Ideal.exp (top g - max (top f) (top g)))

theorem two_comm {n : ℕ} (f u g w : Fin n → EReal) : two f u g w = two g w f u := by
  unfold two
  rw [max_comm (top f) (top g), add_comm (num f u * _), add_comm (den f * _)]

/-- The softmax of a whole row over its values. -/
def one {n : ℕ} (f u : Fin n → EReal) : EReal := ∑ k, u k * Ideal.div (Ideal.exp (f k - top f)) (∑ j, Ideal.exp (f j - top f))

theorem exp_step (x a b : ℝ) : Ideal.exp ((x : EReal) - (a : EReal)) * Ideal.exp ((a : EReal) - (b : EReal)) = Ideal.exp ((x : EReal) - (b : EReal)) := by
  rw [← EReal.coe_sub, ← EReal.coe_sub, ← EReal.coe_sub, Ideal.exp_coe, Ideal.exp_coe, Ideal.exp_coe, ← EReal.coe_mul, ← Real.exp_add]
  congr 2; ring

theorem exp_nonneg_real (x b : ℝ) : Ideal.exp ((x : EReal) - (b : EReal)) = ((Real.exp (x - b) : ℝ) : EReal) := by
  rw [← EReal.coe_sub, Ideal.exp_coe]

theorem den_step {n : ℕ} (f : Fin n → EReal) (hf : ∀ k, ∃ r : ℝ, f k = r) {a : ℝ} (ha : top f = a) (b : ℝ) :
    den f * Ideal.exp (top f - (b : EReal)) = ∑ k, Ideal.exp (f k - (b : EReal)) := by
  unfold den
  rw [ha, exp_nonneg_real, sum_mul_real _ _ (Real.exp_nonneg _), ← exp_nonneg_real]
  refine Finset.sum_congr rfl fun k _ => ?_
  obtain ⟨x, hx⟩ := hf k
  rw [hx, exp_step]

theorem num_step {n : ℕ} (f u : Fin n → EReal) (hf : ∀ k, ∃ r : ℝ, f k = r) {a : ℝ} (ha : top f = a) (b : ℝ) :
    num f u * Ideal.exp (top f - (b : EReal)) = ∑ k, u k * Ideal.exp (f k - (b : EReal)) := by
  unfold num
  rw [ha, exp_nonneg_real, sum_mul_real _ _ (Real.exp_nonneg _), ← exp_nonneg_real]
  refine Finset.sum_congr rfl fun k _ => ?_
  obtain ⟨x, hx⟩ := hf k
  rw [mul_assoc, hx, exp_step]

/-- The two halves of a row of real scores, combined, are the softmax of the whole row, whatever the values. -/
theorem two_eq_one {n : ℕ} (hn : 0 < n) (f u : Fin (n + n) → EReal) (hf : ∀ k, ∃ r : ℝ, f k = r) :
    two (fun k : Fin n => f (k.castAdd n)) (fun k : Fin n => u (k.castAdd n)) (fun k : Fin n => f (k.natAdd n)) (fun k : Fin n => u (k.natAdd n)) = one f u := by
  obtain ⟨b, hb⟩ := top_real (by omega) f hf
  obtain ⟨a, ha⟩ := top_real hn (fun k : Fin n => f (k.castAdd n)) fun k => hf _
  obtain ⟨a', ha'⟩ := top_real hn (fun k : Fin n => f (k.natAdd n)) fun k => hf _
  unfold two one
  rw [← top_split f, hb, den_step _ (fun k => hf _) ha, den_step _ (fun k => hf _) ha', num_step _ _ (fun k => hf _) ha, num_step _ _ (fun k => hf _) ha',
    ← Fin.sum_univ_add (fun k => Ideal.exp (f k - (b : EReal))), ← Fin.sum_univ_add (fun k => u k * Ideal.exp (f k - (b : EReal)))]
  choose r hr using hf
  have hL : (∑ k, Ideal.exp (f k - (b : EReal))) = ((∑ k, Real.exp (r k - b) : ℝ) : EReal) := by
    rw [← sum_real]
    exact Finset.sum_congr rfl fun k _ => by rw [hr k, exp_nonneg_real]
  haveI : Nonempty (Fin (n + n)) := ⟨⟨0, by omega⟩⟩
  have hpos : 0 < ∑ k, Real.exp (r k - b) := Finset.sum_pos (fun k _ => Real.exp_pos _) Finset.univ_nonempty
  rw [hL, Ideal.div_coe hpos.ne', sum_mul_real _ _ (by positivity)]
  refine Finset.sum_congr rfl fun k _ => ?_
  rw [Ideal.div_coe hpos.ne', mul_assoc]

/-- A score, scaled before or after its sum. -/
theorem score_eq {n : ℕ} (q k : Fin n → EReal) {a : ℝ} (ha : 0 ≤ a) : (∑ d, k d * (q d * (a : EReal))) = (∑ d, q d * k d) * (a : EReal) := by
  rw [sum_mul_real _ _ ha]
  exact Finset.sum_congr rfl fun d _ => by rw [mul_comm (q d) (k d), mul_assoc]

theorem score_real {n : ℕ} (q k : Fin n → EReal) (hq : ∀ d, ∃ r : ℝ, q d = r) (hk : ∀ d, ∃ r : ℝ, k d = r) (a : ℝ) : ∃ r : ℝ, (∑ d, q d * k d) * (a : EReal) = r := by
  choose x hx using hq
  choose y hy using hk
  refine ⟨(∑ d, x d * y d) * a, ?_⟩
  rw [EReal.coe_mul, ← sum_real]
  congr 1
  exact Finset.sum_congr rfl fun d _ => by rw [hx, hy, EReal.coe_mul]

theorem ofBits_eighth : Ideal.ofBits .f32 0x3E000000#32 = ((1 / 8 : ℝ) : EReal) := by
  simp only [Ideal.ofBits, Ideal.ieee]
  simp
  rw [← EReal.coe_mul]
  norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

end Cert.DecodeProof
-- ==== Proof.RefValue.lean ====
/- The reference's result, entry by entry. -/
module

public import proofs.«01_k».proof.Proof.Softmax
public import proofs.«01_k».proof.Proof.Gen.ReferenceIdeal.Run
public import Idealize.ShloMosaic.Lib.Pointwise

@[expose] public section

set_option maxRecDepth 16384

noncomputable section

namespace Cert.DecodeProof

open Cert.ReferenceIdeal Cert.ReferenceIdeal.Gen
open Idealize.ShloMosaic

variable (Q : FVec Ideal S16x1x16x64 .f32) (K V : FVec Ideal S16x2048x16x64 .f32)

/-- The reference's scores, and its result. -/
def refScore : FVec Ideal S16x16x1x2048 .f32 := mulf (Host.dotGeneral dot_S16x1x16x64_S16x2048x16x64_S16x16x1x2048_3_3_1_1_02_02 none Q K) (broadcastInDim S16x16x1x2048 ![] bcast_S_S16x16x1x2048 (constant S_ .f32 0x3E000000#32))
def refOut : FVec Ideal S16x1x16x64 .f32 := transpose S16x1x16x64 [0, 3, 1, 2] (Host.dotGeneral dot_S16x2048x16x64_S16x16x1x2048_S16x16x64x1_1_3_3_2_02_01 none V (Host.divf (Host.exp (subf (refScore Q K) (broadcastInDim S16x16x1x2048 ![0, 1, 2, 3] bcast_S16x16x1x1_S16x16x1x2048_0_1_2_3 (broadcastInDim S16x16x1x1 ![0, 1, 2] bcast_S16x16x1_S16x16x1x1_0_1_2 (Host.reduce FloatOps.maximumf (refScore Q K) (constant S_ .f32 0xFF800000#32) reducesTo_S16x16x1x2048_S16x16x1_d3 h_S_))))) (broadcastInDim S16x16x1x2048 ![0, 1, 2, 3] bcast_S16x16x1x1_S16x16x1x2048_0_1_2_3 (broadcastInDim S16x16x1x1 ![0, 1, 2] bcast_S16x16x1_S16x16x1x1_0_1_2 (Host.reduceAdd (Host.exp (subf (refScore Q K) (broadcastInDim S16x16x1x2048 ![0, 1, 2, 3] bcast_S16x16x1x1_S16x16x1x2048_0_1_2_3 (broadcastInDim S16x16x1x1 ![0, 1, 2] bcast_S16x16x1_S16x16x1x1_0_1_2 (Host.reduce FloatOps.maximumf (refScore Q K) (constant S_ .f32 0xFF800000#32) reducesTo_S16x16x1x2048_S16x16x1_d3 h_S_))))) (constant S_ .f32 0x00000000#32) reducesTo_S16x16x1x2048_S16x16x1_d3 h_S_))))) transposes_S16x16x64x1_S16x1x16x64_0_3_1_2

/-- A row of scores, scaled. -/
def scR (b h : Fin 16) : Fin (1024 + 1024) → EReal := fun k => (∑ d : Fin 64, Q (ix4 b 0 h d) * K (ix4 b k h d)) * Ideal.ofBits .f32 0x3E000000#32

theorem refScore_at (b h : Fin 16) (k : Fin 2048) : refScore Q K (ix4 b h 0 k) = scR Q K b h k := by
  pointwise [refScore, scR]

theorem refOut_at (b h : Fin 16) (d : Fin 64) : refOut Q K V (ix4 b 0 h d) = one (scR Q K b h) (fun k => V (ix4 b k h d)) := by
  pointwise [refOut, refScore_at, one]
  rw [ofBits_bot]
  rfl

end Cert.DecodeProof
-- ==== Proof.Value.lean ====
/- The kernel's result and the reference's, entry by entry. -/
module

public import proofs.«01_k».proof.Proof.RefValue
public import Idealize.ShloMosaic.Lib.Pointwise
public import Idealize.ShloMosaic.Lib.LayoutAt

@[expose] public section

set_option maxRecDepth 16384

noncomputable section

namespace Cert.DecodeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

section Value
variable (m : (ℓ : Loc nD τ sig) → Buf (Elt Ideal) ℓ) (c : Dev nD)

/-! ## The blocks, as entries of the arguments -/

/-- A device's arguments. -/
def aQ : S16x1x16x64.Idx → EReal := m (c, main_arg0)
def aK : S16x1024x16x64.Idx → EReal := m (c, main_arg1)
def aV : S16x1024x16x64.Idx → EReal := m (c, main_arg2)

theorem scaled_at (X : FVec Ideal S16x1x16x64 .f32) (b h : Fin 16) (d : Fin 64) :
    mulf (shapeCast S16x16x64 X shapeCasts_S16x1x16x64_S16x16x64) (broadcastInDim S16x16x64 ![] bcast_S_S16x16x64 (constant S_ .f32 0x3E000000#32)) (ix3 b h d)
      = X (ix4 b 0 h d) * Ideal.ofBits .f32 0x3E000000#32 := by
  pointwise

theorem q_at (n : Fin 8) (h : Fin 16) (d : Fin 64) :
    qB m c (pt n) (ix3 0 h d) = aQ m c (ix4 (brow c n) 0 h d) * Ideal.ofBits .f32 0x3E000000#32 := by
  rw [qB_at, V1_q]
  have e : extractStridedSlice S8x16x64 ![8 * (c.val % 2), 0, 0] (qs m c) (slices_q c) (ix3 n h d) = qs m c (ix3 (brow c n) h d) := by
    refine congrArg (qs m c) ?_
    funext a
    apply Fin.ext
    fin_cases a
    · show 8 * (c.val % 2) + n.val = n.val + 8 * (c.val % 2); omega
    · show 0 + h.val = h.val; omega
    · show 0 + d.val = d.val; omega
  exact e.trans (scaled_at _ _ _ _)

theorem k_at (n : Fin 8) (h : Fin 16) (d : Fin 64) (k : Fin 1024) :
    kB m c (pt n) (ix4 0 h d k) = aK m c (ix4 (brow c n) k h d) := by
  rw [kB_at, V1_k]
  pointwise [aK]

theorem v_at (n : Fin 8) (h : Fin 16) (d : Fin 64) (k : Fin 1024) :
    vB m c (pt n) (ix4 0 h d k) = aV m c (ix4 (brow c n) k h d) := by
  rw [vB_at, V1_v]
  pointwise [aV]

/-! ## A grid step's results -/

section Step
variable (q : Vec Ideal S1x16x64 .f32) (k v : Vec Ideal S1x16x64x1024 .f32)

/-- The scores of a head's row. -/
def sc (h : Fin 16) : Fin 1024 → EReal := fun j => ∑ d : Fin 64, k (ix4 0 h d j) * q (ix3 0 h d)

theorem pay5_at (h : Fin 16) (j : Fin 1024) : k0_pay5 q k (ix2 h j) = sc q k h j := by
  pointwise [k0_pay5, sc]

theorem pay6_at (h : Fin 16) : k0_pay6 q k (ix2 h 0) = top (sc q k h) := by
  pointwise [k0_pay6, pay5_at]
  rw [ofBits_bot]
  rfl

theorem pay7_at (h : Fin 16) (j : Fin 1024) : k0_pay7 q k (ix2 h j) = Ideal.exp (sc q k h j - top (sc q k h)) := by
  pointwise [k0_pay7, pay5_at, pay6_at]

theorem pay8_at (h : Fin 16) (d : Fin 64) : k0_pay8 q k v (ix3 0 h d) = num (sc q k h) (fun j => v (ix4 0 h d j)) := by
  pointwise [k0_pay8, pay7_at, num]

theorem pay9_at (h : Fin 16) : k0_pay9 q k (ix3 0 0 h) = top (sc q k h) := by
  pointwise [k0_pay9, pay6_at]

theorem pay10_at (h : Fin 16) : k0_pay10 q k (ix3 0 0 h) = den (sc q k h) := by
  pointwise [k0_pay10, pay7_at, den]

end Step

theorem row1_eq (h : Fin 16) (d : Fin 64) : row1 h d = ix3 0 h d := by
  funext a; fin_cases a <;> rfl
theorem row2_eq (h : Fin 16) : row2 h = ix3 0 0 h := by
  funext a; fin_cases a <;> rfl
theorem row8_eq (n : Fin 8) (h : Fin 16) (d : Fin 64) : row8 n h d = ix3 n h d := by
  funext a; fin_cases a <;> rfl

theorem comb_at (o o' : Vec Ideal S8x16x64 .f32) (ml ml' : Vec Ideal S2x8x16 .f32) (n : Fin 8) (h : Fin 16) (d : Fin 64) :
    comb o o' ml ml' (ix3 n h d) = Ideal.div
      (o (ix3 n h d) * Ideal.exp (ml (ix3 0 n h) - max (ml (ix3 0 n h)) (ml' (ix3 0 n h))) + o' (ix3 n h d) * Ideal.exp (ml' (ix3 0 n h) - max (ml (ix3 0 n h)) (ml' (ix3 0 n h))))
      (ml (ix3 1 n h) * Ideal.exp (ml (ix3 0 n h) - max (ml (ix3 0 n h)) (ml' (ix3 0 n h))) + ml' (ix3 1 n h) * Ideal.exp (ml' (ix3 0 n h) - max (ml (ix3 0 n h)) (ml' (ix3 0 n h)))) := by
  pointwise [comb, k0_pay1, k0_pay2, k0_pay3, k0_pay4]

/-- A device's row of scores, in its half of the sequence, and its row of values. -/
def scK (b h : Fin 16) : Fin 1024 → EReal := fun k => (∑ d : Fin 64, aQ m c (ix4 b 0 h d) * aK m c (ix4 b k h d)) * Ideal.ofBits .f32 0x3E000000#32
def vaK (b h : Fin 16) (d : Fin 64) : Fin 1024 → EReal := fun k => aV m c (ix4 b k h d)

theorem sc_eq (n : Fin 8) (h : Fin 16) : sc (qB m c (pt n)) (kB m c (pt n)) h = scK m c (brow c n) h := by
  funext j
  unfold sc scK
  simp only [q_at, k_at]
  rw [ofBits_eighth]
  exact score_eq _ _ (by norm_num)

theorem oV_at (n : Fin 8) (h : Fin 16) (d : Fin 64) : oV m c (ix3 n h d) = num (scK m c (brow c n) h) (vaK m c (brow c n) h d) := by
  show k0_pay8 (qB m c (pt n)) (kB m c (pt n)) (vB m c (pt n)) (row1 h d) = _
  rw [row1_eq, pay8_at, sc_eq]
  refine congrArg (num _) ?_
  funext j
  exact v_at m c n h d j

theorem ml0_at (n : Fin 8) (h : Fin 16) : mlV m c (ix3 0 n h) = top (scK m c (brow c n) h) := by
  show k0_pay9 (qB m c (pt n)) (kB m c (pt n)) (row2 h) = _
  rw [row2_eq, pay9_at, sc_eq]

theorem ml1_at (n : Fin 8) (h : Fin 16) : mlV m c (ix3 1 n h) = den (scK m c (brow c n) h) := by
  show k0_pay10 (qB m c (pt n)) (kB m c (pt n)) (row2 h) = _
  rw [row2_eq, pay10_at, sc_eq]

theorem brow_px (n : Fin 8) : brow (px c) n = brow c n := by revert c n; decide

theorem cb_at (n : Fin 8) (h : Fin 16) (d : Fin 64) :
    (vals m).cb c (row8 n h d) = two (scK m c (brow c n) h) (vaK m c (brow c n) h d) (scK m (px c) (brow c n) h) (vaK m (px c) (brow c n) h d) := by
  show comb (oV m c) (oV m (px c)) (mlV m c) (mlV m (px c)) (row8 n h d) = _
  rw [row8_eq, comb_at, oV_at, oV_at, ml0_at, ml0_at, ml1_at, ml1_at, brow_px]
  rfl

end Value

/-! ## Against the whole arrays -/

/-- Where a place of a device's half of the sequence lies in the whole. -/
def place (c : Dev nD) (k : Fin 1024) : Fin (1024 + 1024) := if c.val / 2 = 0 then k.castAdd 1024 else k.natAdd 1024

section Whole
variable (m : (ℓ : Loc nD τ sig) → Buf (Elt Ideal) ℓ)
variable (Q : FVec Ideal ⟨4, ![16, 1, 16, 64]⟩ .f32) (K V : FVec Ideal ⟨4, ![16, 2048, 16, 64]⟩ .f32)

/-- The devices' arguments are the blocks of the whole arrays, and the queries and the keys are real numbers. -/
structure Blocks : Prop where
  hQ : ∀ c, aQ m c = Q
  hK : ∀ c b k h d, aK m c (ix4 b k h d) = K (ix4 b (place c k) h d)
  hV : ∀ c b k h d, aV m c (ix4 b k h d) = V (ix4 b (place c k) h d)
  fQ : ∀ b h d, ∃ r : ℝ, Q (ix4 b 0 h d) = (r : EReal)
  fK : ∀ c b k h d, ∃ r : ℝ, aK m c (ix4 b k h d) = (r : EReal)

variable {m Q K V}

theorem scK_eq (H : Blocks m Q K V) (c : Dev nD) (b h : Fin 16) : scK m c b h = fun k => scR Q K b h (place c k) := by
  funext k
  unfold scK scR
  simp only [H.hQ, H.hK]

theorem vaK_eq (H : Blocks m Q K V) (c : Dev nD) (b h : Fin 16) (d : Fin 64) : vaK m c b h d = fun k => V (ix4 b (place c k) h d) := by
  funext k
  exact H.hV c b k h d

theorem scR_real (H : Blocks m Q K V) (b h : Fin 16) (k : Fin (1024 + 1024)) : ∃ r : ℝ, scR Q K b h k = (r : EReal) := by
  have hK : ∀ d : Fin 64, ∃ r : ℝ, K (ix4 b k h d) = (r : EReal) := by
    intro d
    induction k using Fin.addCases with
    | left k =>
      obtain ⟨r, hr⟩ := H.fK 0 b k h d
      exact ⟨r, (H.hK 0 b k h d).symm.trans hr⟩
    | right k =>
      obtain ⟨r, hr⟩ := H.fK 2 b k h d
      exact ⟨r, (H.hK 2 b k h d).symm.trans hr⟩
  unfold scR
  rw [ofBits_eighth]
  exact score_real _ _ (fun d => H.fQ b h d) hK _

theorem cb_eq (H : Blocks m Q K V) (c : Dev nD) (n : Fin 8) (h : Fin 16) (d : Fin 64) :
    (vals m).cb c (row8 n h d) = one (scR Q K (brow c n) h) (fun k => V (ix4 (brow c n) k h d)) := by
  rw [cb_at, scK_eq H, scK_eq H, vaK_eq H, vaK_eq H]
  refine Eq.trans ?_ (two_eq_one (by decide) (scR Q K (brow c n) h) (fun k => V (ix4 (brow c n) k h d)) (scR_real H _ h))
  have hp : ∀ c : Dev nD, (c.val / 2 = 0 ∧ ¬ (px c).val / 2 = 0) ∨ (¬ c.val / 2 = 0 ∧ (px c).val / 2 = 0) := by decide
  rcases hp c with ⟨h0, h1⟩ | ⟨h0, h1⟩
  · simp only [place, if_pos h0, if_neg h1]
  · simp only [place, if_neg h0, if_pos h1]
    exact two_comm _ _ _ _

theorem outV_eq (H : Blocks m Q K V) (c : Dev nD) (b h : Fin 16) (d : Fin 64) :
    outV m c (ix3 b h d) = one (scR Q K b h) (fun k => V (ix4 b k h d)) := by
  show (if b.val / 8 = c.val % 2 then (vals m).cb c else (vals m).cb (py c)) (row8 ⟨b.val % 8, _⟩ h d) = _
  have hb : ∀ (c : Dev nD) (b : Fin 16), (b.val / 8 = c.val % 2 → brow c ⟨b.val % 8, Nat.mod_lt _ (by decide)⟩ = b)
      ∧ (¬ b.val / 8 = c.val % 2 → brow (py c) ⟨b.val % 8, Nat.mod_lt _ (by decide)⟩ = b) := by decide
  by_cases h0 : b.val / 8 = c.val % 2
  · rw [if_pos h0, cb_eq H, (hb c b).1 h0]
  · rw [if_neg h0, cb_eq H, (hb c b).2 h0]

/-- On every device the kernel's result is the reference's. -/
theorem resV_eq (H : Blocks m Q K V) (c : Dev nD) : resV m c = refOut Q K V := by
  funext j
  rw [eq_ix4 j]
  have e : ∀ (b : Fin 16) (z : Fin 1) (h : Fin 16) (d : Fin 64), resV m c (ix4 b z h d) = refOut Q K V (ix4 b z h d) := by
    intro b z h d
    obtain rfl : z = 0 := Subsingleton.elim _ _
    rw [refOut_at]
    refine Eq.trans ?_ (outV_eq H c b h d)
    pointwise [resV]
  exact e (j 0) (j 1) (j 2) (j 3)

end Whole

/-! ## The blocks, from the claim's hypotheses -/

theorem place_val (c : Dev nD) (k : Fin 1024) : (place c k).val = c.val / 2 * 1024 + k.val := by
  have hc : c.val < 4 := c.isLt
  unfold place
  split
  · show k.val = _; omega
  · show 1024 + k.val = _; omega

theorem block_at (c : Dev nD) (X : (⟨4, ![16, 2048, 16, 64]⟩ : Shape).Idx → EReal) (b : Fin 16) (k : Fin 1024) (h : Fin 16) (d : Fin 64) :
    (Layout.blockN ⟨4, ![16, 1024, 16, 64]⟩ ⟨4, ![16, 2048, 16, 64]⟩ (Layout.meshBlock [2, 2] ![[], [0], [], []] c) X) (ix4 b k h d)
      = X (ix4 b (place c k) h d) := by
  rw [Layout.blockN_apply]
  refine congrArg X ?_
  have hp := place_val c k
  fin_cases c <;> dsimp only at hp <;> shard_ext

theorem real_of_abs (x : EReal) (h : Ideal.cmp .olt (max x (-x)) (Ideal.ofBits .f32 0x7F800000#32) = 1#1) : ∃ r : ℝ, x = r := by
  rw [ofBits_top] at h
  induction x using EReal.rec with
  | bot => simp [Ideal.cmp] at h
  | coe r => exact ⟨r, rfl⟩
  | top => simp [Ideal.cmp] at h

end Cert.DecodeProof
-- ==== Proof.lean ====
/- The claims about the decode kernel and its reference, assembled from the modules under `Proof`. -/
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.ReduceAll
public import Idealize.ShloMosaic.Lib.Affine

@[expose] public section

noncomputable section

namespace Cert.Proof

open Idealize.ShloMosaic Idealize.SL.Sem

theorem defs₀_eq : Kernel.defs₀ (F := Bits) = KernelIdeal.defs₀ (F := Bits) := by
  unfold Kernel.defs₀ KernelIdeal.defs₀
  refine congrArg Defs.onTc (funext fun l => ?_)
  match l with
  | 0 => exact funext fun ⟨t, s⟩ => rfl

theorem defs_eq : Kernel.defs (F := Bits) = KernelIdeal.defs (F := Bits) := by
  unfold Kernel.defs KernelIdeal.defs
  exact congrArg (Pipeline.defs _) defs₀_eq

set_option maxHeartbeats 4000000 in
theorem main_eq : Kernel.main (F := Bits) = KernelIdeal.main (F := Bits) := rfl

/-- The kernel over machine words runs, and leaves its arguments as they were and every counter at zero. -/
theorem frame_kernel : Cert.quiescent_Kernel := fun m ρ _ => by
  have h : θ_run (KernelIdeal.defs (F := Bits)) (onTc (τ := KernelIdeal.τ) (KernelIdeal.main (F := Bits))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
    (θ_run KernelIdeal.defs _ _).mono (fun _ h => ⟨fun c => ⟨(h.1 c).1, (h.1 c).2.1, (h.1 c).2.2.1⟩, h.2⟩)
      (DecodeProof.run_main (F := Bits) m ρ)
  rw [← defs_eq, ← main_eq] at h
  exact h

/-- The kernel over extended reals runs, and leaves its arguments as they were and every counter at zero. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩)
    (DecodeProof.run_main (F := Ideal) m ρ)

/-- The reference runs, and leaves its arguments as they were; it has no counter that is not zero. -/
theorem frame_reference : Cert.quiescent_ReferenceIdeal := fun m ρ _ =>
  (θ_run Cert.ReferenceIdeal.defs _ _).mono (fun r h => ⟨fun c => (h c).2, funext fun s => nomatch s.2⟩)
    (Cert.ReferenceIdeal.Value.run (F := Ideal) m ρ)

/-! ## The value -/

theorem facts_kernel : Cert.Pre_finite_KernelIdeal.Facts := ⟨by decide, by decide, by decide, by decide, by decide⟩
theorem facts_reference : Cert.Pre_finite_ReferenceIdeal.Facts := ⟨by decide, by decide, by decide, by decide, by decide⟩

/-- What the precondition says of one device's queries and keys. -/
theorem real_entries [Cert.Pre_finite_KernelIdeal.Facts] (Q : FVec Ideal ⟨4, ![16, 1, 16, 64]⟩ .f32) (K V : FVec Ideal ⟨4, ![16, 1024, 16, 64]⟩ .f32)
    (h : Cert.Pre_finite_KernelIdeal.fn (F := Ideal) Q K V = fun _ => 1#1) :
    (∀ i, ∃ r : ℝ, Q i = (r : EReal)) ∧ (∀ i, ∃ r : ℝ, K i = (r : EReal)) := by
  have h0 := congrFun h (fun a => a.elim0)
  dsimp only [Cert.Pre_finite_KernelIdeal.fn] at h0
  obtain ⟨hQ, hK⟩ := IntOp.andi_eq_one.1 h0
  exact ⟨fun i => DecodeProof.real_of_abs _ (Host.reduce_andi_all _ _ _ _ _ hQ i), fun i => DecodeProof.real_of_abs _ (Host.reduce_andi_all _ _ _ _ _ hK i)⟩

/-- With finite queries and keys, every device's result is the reference's. -/
theorem value [hP : Cert.Pre_finite_KernelIdeal.Facts] : Cert.algebraic_KernelIdeal_ReferenceIdeal_pre_finite_KernelIdeal := fun m ρ m' ρ' hpre hb => by
  let Q := m' (((0 : Dev ReferenceIdeal.nD).tc : Thread ReferenceIdeal.nD ReferenceIdeal.τ).loc ReferenceIdeal.main_arg0)
  let K := m' (((0 : Dev ReferenceIdeal.nD).tc : Thread ReferenceIdeal.nD ReferenceIdeal.τ).loc ReferenceIdeal.main_arg1)
  let V := m' (((0 : Dev ReferenceIdeal.nD).tc : Thread ReferenceIdeal.nD ReferenceIdeal.τ).loc ReferenceIdeal.main_arg2)
  have H : DecodeProof.Blocks m Q K V :=
    { hQ := fun c => (hb c).1
      hK := fun c b k h d => (congrFun (hb c).2.1 (ix4 b k h d)).trans (DecodeProof.block_at c K b k h d)
      hV := fun c b k h d => (congrFun (hb c).2.2 (ix4 b k h d)).trans (DecodeProof.block_at c V b k h d)
      fQ := fun b h d => by
        obtain ⟨r, hr⟩ := (real_entries _ _ _ (hpre 0)).1 (ix4 b 0 h d)
        exact ⟨r, (congrFun (hb 0).1 (ix4 b 0 h d)).symm.trans hr⟩
      fK := fun c b k h d => (real_entries _ _ _ (hpre c)).2 (ix4 b k h d) }
  refine ⟨DecodeProof.refOut Q K V, ?_, ?_⟩
  · exact (θ_run KernelIdeal.defs _ _).mono (fun _ h c => ⟨(h.1 c).2.2.2.trans (DecodeProof.resV_eq H c), (h.1 c).1, (h.1 c).2.1, (h.1 c).2.2.1⟩)
      (DecodeProof.run_main (F := Ideal) m ρ)
  · exact (θ_run ReferenceIdeal.defs _ _).mono (fun _ h => h 0) (ReferenceIdeal.Value.run (F := Ideal) m' ρ')

theorem claim : Cert.Claim := ⟨Cert.Kernel.Gen.facts, Cert.KernelIdeal.Gen.facts, Cert.ReferenceIdeal.Gen.facts, facts_kernel, facts_reference,
  frame_kernel, frame_kernelIdeal, fun m ρ _ => frame_kernelIdeal m ρ trivial, frame_reference, fun m ρ _ => frame_reference m ρ trivial,
  trivial, value (hP := facts_kernel)⟩

end Cert.Proof

end
